-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 32, 64]⟩ ⟨4, ![2, 2048, 32, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 32, 64]⟩ ⟨4, ![2, 2048, 32, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S2x2048x8x64 : Shape := ⟨4, ![2, 2048, 8, 64]⟩
abbrev S2x512x512 : Shape := ⟨3, ![2, 512, 512]⟩
abbrev S4x256x768 : Shape := ⟨3, ![4, 256, 768]⟩
abbrev S3x256x768 : Shape := ⟨3, ![3, 256, 768]⟩
abbrev S2 : Shape := ⟨1, ![2]⟩
abbrev S4 : Shape := ⟨1, ![4]⟩
abbrev S3 : Shape := ⟨1, ![3]⟩
abbrev S_ : Shape := ⟨0, ![]⟩
abbrev S1 : Shape := ⟨1, ![1]⟩
abbrev S2x512x8x64 : Shape := ⟨4, ![2, 512, 8, 64]⟩
abbrev S1x512x768 : Shape := ⟨3, ![1, 512, 768]⟩
abbrev S512x512 : Shape := ⟨2, ![512, 512]⟩
abbrev S1x512x512 : Shape := ⟨3, ![1, 512, 512]⟩
abbrev S512x2048 : Shape := ⟨2, ![512, 2048]⟩
abbrev S1x512x64 : Shape := ⟨3, ![1, 512, 64]⟩
abbrev S512x64 : Shape := ⟨2, ![512, 64]⟩
abbrev S1x2048x1x64 : Shape := ⟨4, ![1, 2048, 1, 64]⟩
abbrev S2048x64 : Shape := ⟨2, ![2048, 64]⟩
abbrev S512 : Shape := ⟨1, ![512]⟩
abbrev S512x1 : Shape := ⟨2, ![512, 1]⟩
abbrev S256x768 : Shape := ⟨2, ![256, 768]⟩
abbrev S1x256x768 : Shape := ⟨3, ![1, 256, 768]⟩

abbrev nBuf : Space → Nat
  | .hbm => 6
  | .vmem => 11
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x32x64, .f32⟩
  | .hbm, ⟨3, _⟩ => ⟨S2x512x32x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S2x512x768, .f32⟩
  | .local _ .vmem, ⟨4, _⟩ => ⟨S2x2048x8x64, .f32⟩
  | .local _ .vmem, ⟨5, _⟩ => ⟨S2x2048x8x64, .f32⟩
  | .local _ .vmem, ⟨6, _⟩ => ⟨S2x512x512, .f32⟩
  | .local _ .vmem, ⟨7, _⟩ => ⟨S2x512x512, .f32⟩
  | .local _ .vmem, ⟨8, _⟩ => ⟨S4x256x768, .f32⟩
  | .local _ .vmem, ⟨9, _⟩ => ⟨S3x256x768, .f32⟩
  | .local _ .vmem, ⟨10, _⟩ => ⟨S4x256x768, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v15 : BitVec 32 := Scalar.addi v2 c1_i32_6
  let c4_i32_7 : BitVec 32 := 4#32
  let c0_i32_8 : BitVec 32 := 0#32
  let v16 : BitVec 1 := Scalar.cmpi .eq c4_i32_7 c0_i32_8
  let c1_i32_9 : BitVec 32 := 1#32
  let v17 : BitVec 32 := Scalar.select v16 c1_i32_9 c4_i32_7
  let v18 : BitVec 32 := Scalar.remsi v15 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_14 : BitVec 32 := 1#32
  let v26 : BitVec 32 := Scalar.muli v25 c1_i32_14
  let v27 : BitVec 32 := Scalar.addi c0_i32_15 v26
  v27.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v28 : BitVec 32 := Scalar.addi v2 c2_i32
  let c4_i32_16 : BitVec 32 := 4#32
  let c0_i32_17 : BitVec 32 := 0#32
  let v29 : BitVec 1 := Scalar.cmpi .eq c4_i32_16 c0_i32_17
  let c1_i32_18 : BitVec 32 := 1#32
  let v30 : BitVec 32 := Scalar.select v29 c1_i32_18 c4_i32_16
  let v31 : BitVec 32 := Scalar.remsi v28 v30
  let c0_i32_20 : BitVec 32 := 0#32
  let v33 : BitVec 1 := Scalar.cmpi .slt v31 c0_i32_20
  let c0_i32_21 : BitVec 32 := 0#32
  let v34 : BitVec 1 := Scalar.cmpi .slt v30 c0_i32_21
  let v35 : BitVec 1 := Scalar.xori v33 v34
  let c0_i32_19 : BitVec 32 := 0#32
  let v32 : BitVec 1 := Scalar.cmpi .ne v31 c0_i32_19
  let v36 : BitVec 1 := Scalar.andi v35 v32
  let v37 : BitVec 32 := Scalar.addi v31 v30
  let v38 : BitVec 32 := Scalar.select v36 v37 v31
  let c1_i32_23 : BitVec 32 := 1#32
  let v39 : BitVec 32 := Scalar.muli v38 c1_i32_23
  let v40 : BitVec 32 := Scalar.addi c0_i32_24 v39
  v40.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v41 : BitVec 32 := Scalar.addi v2 c3_i32
  let c4_i32_25 : BitVec 32 := 4#32
  let c0_i32_26 : BitVec 32 := 0#32
  let v42 : BitVec 1 := Scalar.cmpi .eq c4_i32_25 c0_i32_26
  let c1_i32_27 : BitVec 32 := 1#32
  let v43 : BitVec 32 := Scalar.select v42 c1_i32_27 c4_i32_25
  let v44 : BitVec 32 := Scalar.remsi v41 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c1_i32_32 : BitVec 32 := 1#32
  let v52 : BitVec 32 := Scalar.muli v51 c1_i32_32
  let v53 : BitVec 32 := Scalar.addi c0_i32_33 v52
  v53.toNat
def k0_off1 (d0 : Dev nD) : Fin 4 → Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v55 : BitVec 32 := Scalar.muli v2 c512_i32
  let c0_i32_39 : BitVec 32 := 0#32
  let c0_i32_40 : BitVec 32 := 0#32
  ![0, v55.toNat, 0, 0]
def k0_off2 (d0 : Dev nD) : Fin 4 → Nat :=
  let c0_i32_41 : BitVec 32 := 0#32
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v54 : BitVec 32 := Scalar.muli v2 c8_i32
  let c0_i32_43 : BitVec 32 := 0#32
  ![0, 0, v54.toNat, 0]
def k0_off3 (d0 : Dev nD) (c1_i32_51 : BitVec 32) : Fin 4 → Nat :=
  let c0_i32_67 : BitVec 32 := 0#32
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.addi v2 c1_i32_51
  let c4_i32_52 : BitVec 32 := 4#32
  let c0_i32_53 : BitVec 32 := 0#32
  let v67 : BitVec 1 := Scalar.cmpi .eq c4_i32_52 c0_i32_53
  let c1_i32_54 : BitVec 32 := 1#32
  let v68 : BitVec 32 := Scalar.select v67 c1_i32_54 c4_i32_52
  let v69 : BitVec 32 := Scalar.remsi v66 v68
  let c0_i32_56 : BitVec 32 := 0#32
  let v71 : BitVec 1 := Scalar.cmpi .slt v69 c0_i32_56
  let c0_i32_57 : BitVec 32 := 0#32
  let v72 : BitVec 1 := Scalar.cmpi .slt v68 c0_i32_57
  let v73 : BitVec 1 := Scalar.xori v71 v72
  let c0_i32_55 : BitVec 32 := 0#32
  let v70 : BitVec 1 := Scalar.cmpi .ne v69 c0_i32_55
  let v74 : BitVec 1 := Scalar.andi v73 v70
  let v75 : BitVec 32 := Scalar.addi v69 v68
  let v76 : BitVec 32 := Scalar.select v74 v75 v69
  let c8_i32_58 : BitVec 32 := 8#32
  let v77 : BitVec 32 := Scalar.muli v76 c8_i32_58
  let c0_i32_69 : BitVec 32 := 0#32
  ![0, 0, v77.toNat, 0]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v66 : BitVec 32 := Scalar.addi v2 c1_i32_51
  let c4_i32_52 : BitVec 32 := 4#32
  let c0_i32_53 : BitVec 32 := 0#32
  let v67 : BitVec 1 := Scalar.cmpi .eq c4_i32_52 c0_i32_53
  let c1_i32_54 : BitVec 32 := 1#32
  let v68 : BitVec 32 := Scalar.select v67 c1_i32_54 c4_i32_52
  let v69 : BitVec 32 := Scalar.remsi v66 v68
  let c0_i32_56 : BitVec 32 := 0#32
  let v71 : BitVec 1 := Scalar.cmpi .slt v69 c0_i32_56
  let c0_i32_57 : BitVec 32 := 0#32
  let v72 : BitVec 1 := Scalar.cmpi .slt v68 c0_i32_57
  let v73 : BitVec 1 := Scalar.xori v71 v72
  let c0_i32_55 : BitVec 32 := 0#32
  let v70 : BitVec 1 := Scalar.cmpi .ne v69 c0_i32_55
  let v74 : BitVec 1 := Scalar.andi v73 v70
  let v75 : BitVec 32 := Scalar.addi v69 v68
  let v76 : BitVec 32 := Scalar.select v74 v75 v69
  let c1_i32_62 : BitVec 32 := 1#32
  let v79 : BitVec 32 := Scalar.muli v76 c1_i32_62
  let v80 : BitVec 32 := Scalar.addi c0_i32_63 v79
  v80.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v66 : BitVec 32 := Scalar.addi v2 c1_i32_51
  let c4_i32_52 : BitVec 32 := 4#32
  let c0_i32_53 : BitVec 32 := 0#32
  let v67 : BitVec 1 := Scalar.cmpi .eq c4_i32_52 c0_i32_53
  let c1_i32_54 : BitVec 32 := 1#32
  let v68 : BitVec 32 := Scalar.select v67 c1_i32_54 c4_i32_52
  let v69 : BitVec 32 := Scalar.remsi v66 v68
  let c0_i32_56 : BitVec 32 := 0#32
  let v71 : BitVec 1 := Scalar.cmpi .slt v69 c0_i32_56
  let c0_i32_57 : BitVec 32 := 0#32
  let v72 : BitVec 1 := Scalar.cmpi .slt v68 c0_i32_57
  let v73 : BitVec 1 := Scalar.xori v71 v72
  let c0_i32_55 : BitVec 32 := 0#32
  let v70 : BitVec 1 := Scalar.cmpi .ne v69 c0_i32_55
  let v74 : BitVec 1 := Scalar.andi v73 v70
  let v75 : BitVec 32 := Scalar.addi v69 v68
  let v76 : BitVec 32 := Scalar.select v74 v75 v69
  let c1_i32_74 : BitVec 32 := 1#32
  let v89 : BitVec 32 := Scalar.muli v76 c1_i32_74
  let v90 : BitVec 32 := Scalar.addi c0_i32_75 v89
  v90.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_82 : BitVec 32 := 2#32
  let v97 : BitVec 32 := Scalar.addi v2 c2_i32_82
  let c4_i32_83 : BitVec 32 := 4#32
  let c0_i32_84 : BitVec 32 := 0#32
  let v98 : BitVec 1 := Scalar.cmpi .eq c4_i32_83 c0_i32_84
  let c1_i32_85 : BitVec 32 := 1#32
  let v99 : BitVec 32 := Scalar.select v98 c1_i32_85 c4_i32_83
  let v100 : BitVec 32 := Scalar.remsi v97 v99
  let c0_i32_87 : BitVec 32 := 0#32
  let v102 : BitVec 1 := Scalar.cmpi .slt v100 c0_i32_87
  let c0_i32_88 : BitVec 32 := 0#32
  let v103 : BitVec 1 := Scalar.cmpi .slt v99 c0_i32_88
  let v104 : BitVec 1 := Scalar.xori v102 v103
  let c0_i32_86 : BitVec 32 := 0#32
  let v101 : BitVec 1 := Scalar.cmpi .ne v100 c0_i32_86
  let v105 : BitVec 1 := Scalar.andi v104 v101
  let v106 : BitVec 32 := Scalar.addi v100 v99
  let v107 : BitVec 32 := Scalar.select v105 v106 v100
  let c1_i32_93 : BitVec 32 := 1#32
  let v110 : BitVec 32 := Scalar.muli v107 c1_i32_93
  let v111 : BitVec 32 := Scalar.addi c0_i32_94 v110
  v111.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_82 : BitVec 32 := 2#32
  let v97 : BitVec 32 := Scalar.addi v2 c2_i32_82
  let c4_i32_83 : BitVec 32 := 4#32
  let c0_i32_84 : BitVec 32 := 0#32
  let v98 : BitVec 1 := Scalar.cmpi .eq c4_i32_83 c0_i32_84
  let c1_i32_85 : BitVec 32 := 1#32
  let v99 : BitVec 32 := Scalar.select v98 c1_i32_85 c4_i32_83
  let v100 : BitVec 32 := Scalar.remsi v97 v99
  let c0_i32_87 : BitVec 32 := 0#32
  let v102 : BitVec 1 := Scalar.cmpi .slt v100 c0_i32_87
  let c0_i32_88 : BitVec 32 := 0#32
  let v103 : BitVec 1 := Scalar.cmpi .slt v99 c0_i32_88
  let v104 : BitVec 1 := Scalar.xori v102 v103
  let c0_i32_86 : BitVec 32 := 0#32
  let v101 : BitVec 1 := Scalar.cmpi .ne v100 c0_i32_86
  let v105 : BitVec 1 := Scalar.andi v104 v101
  let v106 : BitVec 32 := Scalar.addi v100 v99
  let v107 : BitVec 32 := Scalar.select v105 v106 v100
  let c1_i32_105 : BitVec 32 := 1#32
  let v120 : BitVec 32 := Scalar.muli v107 c1_i32_105
  let v121 : BitVec 32 := Scalar.addi c0_i32_106 v120
  v121.toNat
def k0_dev8 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v128 : BitVec 32 := Scalar.addi v2 c3_i32_113
  let c4_i32_114 : BitVec 32 := 4#32
  let c0_i32_115 : BitVec 32 := 0#32
  let v129 : BitVec 1 := Scalar.cmpi .eq c4_i32_114 c0_i32_115
  let c1_i32_116 : BitVec 32 := 1#32
  let v130 : BitVec 32 := Scalar.select v129 c1_i32_116 c4_i32_114
  let v131 : BitVec 32 := Scalar.remsi v128 v130
  let c0_i32_118 : BitVec 32 := 0#32
  let v133 : BitVec 1 := Scalar.cmpi .slt v131 c0_i32_118
  let c0_i32_119 : BitVec 32 := 0#32
  let v134 : BitVec 1 := Scalar.cmpi .slt v130 c0_i32_119
  let v135 : BitVec 1 := Scalar.xori v133 v134
  let c0_i32_117 : BitVec 32 := 0#32
  let v132 : BitVec 1 := Scalar.cmpi .ne v131 c0_i32_117
  let v136 : BitVec 1 := Scalar.andi v135 v132
  let v137 : BitVec 32 := Scalar.addi v131 v130
  let v138 : BitVec 32 := Scalar.select v136 v137 v131
  let c1_i32_124 : BitVec 32 := 1#32
  let v141 : BitVec 32 := Scalar.muli v138 c1_i32_124
  let v142 : BitVec 32 := Scalar.addi c0_i32_125 v141
  v142.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v128 : BitVec 32 := Scalar.addi v2 c3_i32_113
  let c4_i32_114 : BitVec 32 := 4#32
  let c0_i32_115 : BitVec 32 := 0#32
  let v129 : BitVec 1 := Scalar.cmpi .eq c4_i32_114 c0_i32_115
  let c1_i32_116 : BitVec 32 := 1#32
  let v130 : BitVec 32 := Scalar.select v129 c1_i32_116 c4_i32_114
  let v131 : BitVec 32 := Scalar.remsi v128 v130
  let c0_i32_118 : BitVec 32 := 0#32
  let v133 : BitVec 1 := Scalar.cmpi .slt v131 c0_i32_118
  let c0_i32_119 : BitVec 32 := 0#32
  let v134 : BitVec 1 := Scalar.cmpi .slt v130 c0_i32_119
  let v135 : BitVec 1 := Scalar.xori v133 v134
  let c0_i32_117 : BitVec 32 := 0#32
  let v132 : BitVec 1 := Scalar.cmpi .ne v131 c0_i32_117
  let v136 : BitVec 1 := Scalar.andi v135 v132
  let v137 : BitVec 32 := Scalar.addi v131 v130
  let v138 : BitVec 32 := Scalar.select v136 v137 v131
  let c1_i32_136 : BitVec 32 := 1#32
  let v151 : BitVec 32 := Scalar.muli v138 c1_i32_136
  let v152 : BitVec 32 := Scalar.addi c0_i32_137 v151
  v152.toNat
def k0_off4 (d0 : Dev nD) (c0_i32_643 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v736 : BitVec 32 := Scalar.subi v2 c0_i32_643
  let c4_i32_644 : BitVec 32 := 4#32
  let c0_i32_645 : BitVec 32 := 0#32
  let v737 : BitVec 1 := Scalar.cmpi .eq c4_i32_644 c0_i32_645
  let c1_i32_646 : BitVec 32 := 1#32
  let v738 : BitVec 32 := Scalar.select v737 c1_i32_646 c4_i32_644
  let v739 : BitVec 32 := Scalar.remsi v736 v738
  let c0_i32_648 : BitVec 32 := 0#32
  let v741 : BitVec 1 := Scalar.cmpi .slt v739 c0_i32_648
  let c0_i32_649 : BitVec 32 := 0#32
  let v742 : BitVec 1 := Scalar.cmpi .slt v738 c0_i32_649
  let v743 : BitVec 1 := Scalar.xori v741 v742
  let c0_i32_647 : BitVec 32 := 0#32
  let v740 : BitVec 1 := Scalar.cmpi .ne v739 c0_i32_647
  let v744 : BitVec 1 := Scalar.andi v743 v740
  let v745 : BitVec 32 := Scalar.addi v739 v738
  let v746 : BitVec 32 := Scalar.select v744 v745 v739
  let c0_i32_657 : BitVec 32 := 0#32
  let c0_i32_658 : BitVec 32 := 0#32
  ![v746.toNat, 0, 0]
def k0_dev10 (d0 : Dev nD) : Nat :=
  let c0_i32_654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_653 : BitVec 32 := 1#32
  let v747 : BitVec 32 := Scalar.muli v13 c1_i32_653
  let v748 : BitVec 32 := Scalar.addi c0_i32_654 v747
  v748.toNat
def k0_off5 (d0 : Dev nD) (c0_i32_676 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v771 : BitVec 32 := Scalar.subi v2 c0_i32_676
  let c1_i32_677 : BitVec 32 := 1#32
  let v772 : BitVec 32 := Scalar.subi v771 c1_i32_677
  let c4_i32_678 : BitVec 32 := 4#32
  let c0_i32_679 : BitVec 32 := 0#32
  let v773 : BitVec 1 := Scalar.cmpi .eq c4_i32_678 c0_i32_679
  let c1_i32_680 : BitVec 32 := 1#32
  let v774 : BitVec 32 := Scalar.select v773 c1_i32_680 c4_i32_678
  let v775 : BitVec 32 := Scalar.remsi v772 v774
  let c0_i32_682 : BitVec 32 := 0#32
  let v777 : BitVec 1 := Scalar.cmpi .slt v775 c0_i32_682
  let c0_i32_683 : BitVec 32 := 0#32
  let v778 : BitVec 1 := Scalar.cmpi .slt v774 c0_i32_683
  let v779 : BitVec 1 := Scalar.xori v777 v778
  let c0_i32_681 : BitVec 32 := 0#32
  let v776 : BitVec 1 := Scalar.cmpi .ne v775 c0_i32_681
  let v780 : BitVec 1 := Scalar.andi v779 v776
  let v781 : BitVec 32 := Scalar.addi v775 v774
  let v782 : BitVec 32 := Scalar.select v780 v781 v775
  let v783 : Index := Scalar.indexCast v782
  let c0_684 : Index := 0#32
  let c0_685 : Index := 0#32
  ![v783.toNat, 0, 0]
def k0_dev11 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_701 : BitVec 32 := 1#32
  let v804 : BitVec 32 := Scalar.muli v13 c1_i32_701
  let v805 : BitVec 32 := Scalar.addi c0_i32_702 v804
  v805.toNat
def k0_dev12 (d0 : Dev nD) : Nat :=
  let c0_i32_750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_749 : BitVec 32 := 1#32
  let v861 : BitVec 32 := Scalar.muli v13 c1_i32_749
  let v862 : BitVec 32 := Scalar.addi c0_i32_750 v861
  v862.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_787 : BitVec 32 := 1#32
  let v907 : BitVec 32 := Scalar.addi v2 c1_i32_787
  let c4_i32_788 : BitVec 32 := 4#32
  let c0_i32_789 : BitVec 32 := 0#32
  let v908 : BitVec 1 := Scalar.cmpi .eq c4_i32_788 c0_i32_789
  let c1_i32_790 : BitVec 32 := 1#32
  let v909 : BitVec 32 := Scalar.select v908 c1_i32_790 c4_i32_788
  let v910 : BitVec 32 := Scalar.remsi v907 v909
  let c0_i32_792 : BitVec 32 := 0#32
  let v912 : BitVec 1 := Scalar.cmpi .slt v910 c0_i32_792
  let c0_i32_793 : BitVec 32 := 0#32
  let v913 : BitVec 1 := Scalar.cmpi .slt v909 c0_i32_793
  let v914 : BitVec 1 := Scalar.xori v912 v913
  let c0_i32_791 : BitVec 32 := 0#32
  let v911 : BitVec 1 := Scalar.cmpi .ne v910 c0_i32_791
  let v915 : BitVec 1 := Scalar.andi v914 v911
  let v916 : BitVec 32 := Scalar.addi v910 v909
  let v917 : BitVec 32 := Scalar.select v915 v916 v910
  let v918 : Index := Scalar.indexCast v917
  let c0_794 : Index := 0#32
  let c0_795 : Index := 0#32
  ![v918.toNat, 0, 0]
def k0_off7 (d0 : Dev nD) (c0_i32_799 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_798 : BitVec 32 := 1#32
  let v925 : BitVec 32 := Scalar.addi v2 c1_i32_798
  let v926 : BitVec 32 := Scalar.subi v925 c0_i32_799
  let c4_i32_800 : BitVec 32 := 4#32
  let c0_i32_801 : BitVec 32 := 0#32
  let v927 : BitVec 1 := Scalar.cmpi .eq c4_i32_800 c0_i32_801
  let c1_i32_802 : BitVec 32 := 1#32
  let v928 : BitVec 32 := Scalar.select v927 c1_i32_802 c4_i32_800
  let v929 : BitVec 32 := Scalar.remsi v926 v928
  let c0_i32_804 : BitVec 32 := 0#32
  let v931 : BitVec 1 := Scalar.cmpi .slt v929 c0_i32_804
  let c0_i32_805 : BitVec 32 := 0#32
  let v932 : BitVec 1 := Scalar.cmpi .slt v928 c0_i32_805
  let v933 : BitVec 1 := Scalar.xori v931 v932
  let c0_i32_803 : BitVec 32 := 0#32
  let v930 : BitVec 1 := Scalar.cmpi .ne v929 c0_i32_803
  let v934 : BitVec 1 := Scalar.andi v933 v930
  let v935 : BitVec 32 := Scalar.addi v929 v928
  let v936 : BitVec 32 := Scalar.select v934 v935 v929
  let c0_i32_810 : BitVec 32 := 0#32
  let c0_i32_811 : BitVec 32 := 0#32
  ![v936.toNat, 0, 0]
def k0_dev13 (d0 : Dev nD) : Nat :=
  let c0_i32_809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_808 : BitVec 32 := 1#32
  let v937 : BitVec 32 := Scalar.muli v13 c1_i32_808
  let v938 : BitVec 32 := Scalar.addi c0_i32_809 v937
  v938.toNat
def k0_dev14 (d0 : Dev nD) : Nat :=
  let c0_i32_840 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_839 : BitVec 32 := 1#32
  let v973 : BitVec 32 := Scalar.muli v13 c1_i32_839
  let v974 : BitVec 32 := Scalar.addi c0_i32_840 v973
  v974.toNat
def k0_dev15 (d0 : Dev nD) : Nat :=
  let c0_i32_871 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_870 : BitVec 32 := 1#32
  let v1009 : BitVec 32 := Scalar.muli v13 c1_i32_870
  let v1010 : BitVec 32 := Scalar.addi c0_i32_871 v1009
  v1010.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x768 : Shape := ⟨3, ![2, 512, 768]⟩
abbrev S768x2048 : Shape := ⟨2, ![768, 2048]⟩
abbrev S2x2048x32x64 : Shape := ⟨4, ![2, 2048, 32, 64]⟩
abbrev S2048x768 : Shape := ⟨2, ![2048, 768]⟩
abbrev S2x512x2048 : Shape := ⟨3, ![2, 512, 2048]⟩
abbrev S2x512x32x64 : Shape := ⟨4, ![2, 512, 32, 64]⟩
abbrev S512 : Shape := ⟨1, ![512]⟩
abbrev S_ : Shape := ⟨0, ![]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S2x32x512x2048 : Shape := ⟨4, ![2, 32, 512, 2048]⟩
abbrev S1x1x512x2048 : Shape := ⟨4, ![1, 1, 512, 2048]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x2048, .f32⟩
  | 2 => ⟨S2x2048x32x64, .f32⟩
  | 3 => ⟨S2x2048x32x64, .f32⟩
  | 4 => ⟨S2048x768, .f32⟩
  | 5 => ⟨S2x512x2048, .f32⟩
  | 6 => ⟨S2x512x32x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S1x2048, .i32⟩
  | 47 => ⟨S512x2048, .i32⟩
  | 48 => ⟨S512x2048, .i32⟩
  | 49 => ⟨S512x2048, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x2048, .i32⟩
  | 57 => ⟨S1x2048, .i32⟩
  | 58 => ⟨S_, .i32⟩
  | 59 => ⟨S1x2048, .i32⟩
  | 60 => ⟨S1x2048, .i1⟩
  | 61 => ⟨S_, .i32⟩
  | 62 => ⟨S1x2048, .i32⟩
  | 63 => ⟨S1x2048, .i1⟩
  | 64 => ⟨S_, .i32⟩
  | 65 => ⟨S_, .i1⟩
  | 66 => ⟨S1x2048, .i1⟩
  | 67 => ⟨S1x2048, .i1⟩
  | 68 => ⟨S1x2048, .i1⟩
  | 69 => ⟨S1x2048, .i32⟩
  | 70 => ⟨S1x2048, .i32⟩
  | 71 => ⟨S1x2048, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x2048, .i32⟩
  | 95 => ⟨S512x2048, .i32⟩
  | 96 => ⟨S512x2048, .i1⟩
  | 97 => ⟨S512x2048, .i1⟩
  | 98 => ⟨S2x32x512x2048, .f32⟩
  | 99 => ⟨S_, .f32⟩
  | 100 => ⟨S2x32x512x2048, .f32⟩
  | 101 => ⟨S2x32x512x2048, .f32⟩
  | 102 => ⟨S1x1x512x2048, .i1⟩
  | 103 => ⟨S_, .f32⟩
  | 104 => ⟨S_, .f32⟩
  | 105 => ⟨S2x32x512x2048, .i1⟩
  | 106 => ⟨S2x32x512x2048, .f32⟩
  | 107 => ⟨S2x32x512x2048, .f32⟩
  | 108 => ⟨S_, .f32⟩
  | 109 => ⟨S2x32x512, .f32⟩
  | 110 => ⟨S2x32x512x1, .f32⟩
  | 111 => ⟨S2x32x512x2048, .f32⟩
  | 112 => ⟨S2x32x512x2048, .f32⟩
  | 113 => ⟨S2x32x512x2048, .f32⟩
  | 114 => ⟨S_, .i1⟩
  | 115 => ⟨S512, .i1⟩
  | 116 => ⟨S1x1x512x1, .i1⟩
  | 117 => ⟨S_, .f32⟩
  | 118 => ⟨S2x32x512, .f32⟩
  | 119 => ⟨S2x32x512x1, .f32⟩
  | 120 => ⟨S_, .f32⟩
  | 121 => ⟨S_, .f32⟩
  | 122 => ⟨S2x32x512x1, .i1⟩
  | 123 => ⟨S2x32x512x1, .f32⟩
  | 124 => ⟨S2x32x512x1, .f32⟩
  | 125 => ⟨S2x32x512x2048, .f32⟩
  | 126 => ⟨S2x32x512x2048, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x32x512x2048, .i1⟩
  | 3 => ⟨S2x32x512x2048, .f32⟩
  | 4 => ⟨S2x32x512x2048, .f32⟩
  | 5 => ⟨S2x32x64x512, .f32⟩
  | 6 => ⟨S2x512x32x64, .f32⟩
  | 7 => ⟨S2x512x2048, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Geo.lean ====
/-
# `Geo`: where things lie — the four devices, the slots of the buffers, and what the slots hold

The four devices stand in a ring. Every buffer the transfers touch is cut along one axis into slots: the gathered keys
and values into four runs of 512 positions (one for each device's share of the sequence), the two inputs they come from
into four runs of 8 heads, the partial products and the result into four runs of 256 rows, the landing buffer of the
reduction into three.  This module names these slots, shows that they are disjoint and fill their buffers, puts the
addresses which the kernel computes in closed form, and says what each buffer holds, as one function on the whole buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of devices -/

/-- The device `o` places after `c`. -/
def sh (c : Fin 4) (o : ℕ) : Fin 4 := ⟨(c.val + o) % 4, Nat.mod_lt _ (by decide)⟩

theorem sh_val (c : Fin 4) (o : ℕ) : (sh c o).val = (c.val + o) % 4 := rfl
theorem sh_zero (c : Fin 4) : sh c 0 = c := by revert c; decide
theorem sh_four (c : Fin 4) : sh c 4 = c := by revert c; decide
theorem sh_sh (c : Fin 4) (a b : ℕ) : sh (sh c a) b = sh c (a + b) := Fin.ext (by simp only [sh_val]; omega)
theorem sh_mod (c : Fin 4) (a b : ℕ) (h : a % 4 = b % 4) : sh c a = sh c b := Fin.ext (by simp only [sh_val]; omega)

/-- The addresses of the ring, as the kernel computes them. -/
theorem dev1_eq (c : Dev nD) : (⟨k0_dev1 c, k0_dev1_lt c⟩ : Dev nD) = sh c 1 := by revert c; decide +kernel
theorem dev2_eq (c : Dev nD) : (⟨k0_dev2 c, k0_dev2_lt c⟩ : Dev nD) = sh c 2 := by revert c; decide +kernel
theorem dev3_eq (c : Dev nD) : (⟨k0_dev3 c, k0_dev3_lt c⟩ : Dev nD) = sh c 3 := by revert c; decide +kernel
theorem dev4_eq (c : Dev nD) : (⟨k0_dev4 c, k0_dev4_lt c⟩ : Dev nD) = sh c 1 := by revert c; decide +kernel
theorem dev5_eq (c : Dev nD) : (⟨k0_dev5 c, k0_dev5_lt c⟩ : Dev nD) = sh c 1 := by revert c; decide +kernel
theorem dev6_eq (c : Dev nD) : (⟨k0_dev6 c, k0_dev6_lt c⟩ : Dev nD) = sh c 2 := by revert c; decide +kernel
theorem dev7_eq (c : Dev nD) : (⟨k0_dev7 c, k0_dev7_lt c⟩ : Dev nD) = sh c 2 := by revert c; decide +kernel
theorem dev8_eq (c : Dev nD) : (⟨k0_dev8 c, k0_dev8_lt c⟩ : Dev nD) = sh c 3 := by revert c; decide +kernel
theorem dev9_eq (c : Dev nD) : (⟨k0_dev9 c, k0_dev9_lt c⟩ : Dev nD) = sh c 3 := by revert c; decide +kernel
theorem dev10_eq (c : Dev nD) : (⟨k0_dev10 c, k0_dev10_lt c⟩ : Dev nD) = sh c 1 := by revert c; decide +kernel
theorem dev11_eq (c : Dev nD) : (⟨k0_dev11 c, k0_dev11_lt c⟩ : Dev nD) = sh c 1 := by revert c; decide +kernel
theorem dev12_eq (c : Dev nD) : (⟨k0_dev12 c, k0_dev12_lt c⟩ : Dev nD) = sh c 1 := by revert c; decide +kernel
theorem dev13_eq (c : Dev nD) : (⟨k0_dev13 c, k0_dev13_lt c⟩ : Dev nD) = sh c 1 := by revert c; decide +kernel
theorem dev14_eq (c : Dev nD) : (⟨k0_dev14 c, k0_dev14_lt c⟩ : Dev nD) = sh c 1 := by revert c; decide +kernel
theorem dev15_eq (c : Dev nD) : (⟨k0_dev15 c, k0_dev15_lt c⟩ : Dev nD) = sh c 1 := by revert c; decide +kernel

/-! ## The slots' offsets -/

/-- Slot `j` of the gathered keys (values): positions `512 j` to `512 j + 511`. -/
def kOff (j : Fin 4) : Fin 4 → ℕ := ![0, 512 * j.val, 0, 0]
/-- Slot `j` of a device's own keys (values): heads `8 j` to `8 j + 7`. -/
def hOff (j : Fin 4) : Fin 4 → ℕ := ![0, 0, 8 * j.val, 0]
/-- Slot `j` of a buffer whose first axis numbers the slots. -/
def pOff (j : ℕ) : Fin 3 → ℕ := ![j, 0, 0]

theorem off1_eq (c : Dev nD) : k0_off1 c = kOff c := by revert c; decide +kernel
theorem off2_eq (c : Dev nD) : k0_off2 c = hOff c := by revert c; decide +kernel
theorem off3_eq1 (c : Dev nD) : k0_off3 c 1#32 = hOff (sh c 1) := by revert c; decide +kernel
theorem off3_eq2 (c : Dev nD) : k0_off3 c 2#32 = hOff (sh c 2) := by revert c; decide +kernel
theorem off3_eq3 (c : Dev nD) : k0_off3 c 3#32 = hOff (sh c 3) := by revert c; decide +kernel
theorem off4_eq0 (c : Dev nD) : k0_off4 c 0#32 = pOff (sh c 4) := by revert c; decide +kernel
theorem off4_eq1 (c : Dev nD) : k0_off4 c 1#32 = pOff (sh c 3) := by revert c; decide +kernel
theorem off4_eq2 (c : Dev nD) : k0_off4 c 2#32 = pOff (sh c 2) := by revert c; decide +kernel
theorem off5_eq0 (c : Dev nD) : k0_off5 c 0#32 = pOff (sh c 3) := by revert c; decide +kernel
theorem off5_eq1 (c : Dev nD) : k0_off5 c 1#32 = pOff (sh c 2) := by revert c; decide +kernel
theorem off5_eq2 (c : Dev nD) : k0_off5 c 2#32 = pOff (sh c 1) := by revert c; decide +kernel
theorem off6_eq (c : Dev nD) : k0_off6 c = pOff (sh c 1) := by revert c; decide +kernel
theorem off7_eq0 (c : Dev nD) : k0_off7 c 0#32 = pOff (sh c 5) := by revert c; decide +kernel
theorem off7_eq1 (c : Dev nD) : k0_off7 c 1#32 = pOff (sh c 4) := by revert c; decide +kernel
theorem off7_eq2 (c : Dev nD) : k0_off7 c 2#32 = pOff (sh c 3) := by revert c; decide +kernel

/-! ## The slots as rectangles, and their elements -/

theorem kOff_inb (j : Fin 4) : ∀ a, kOff j a + S2x512x8x64.size a ≤ S2x2048x8x64.size a := by revert j; decide +kernel
theorem hOff_inb (j : Fin 4) : ∀ a, hOff j a + S2x512x8x64.size a ≤ S2x512x32x64.size a := by revert j; decide +kernel
theorem pOff_inb (j : Fin 4) : ∀ a, pOff j a + S1x256x768.size a ≤ S4x256x768.size a := by revert j; decide +kernel
theorem rOff_inb (t : Fin 3) : ∀ a, pOff t a + S1x256x768.size a ≤ S3x256x768.size a := by revert t; decide +kernel

abbrev kRect (j : Fin 4) : Rect S2x2048x8x64 := Rect.unit (s := S2x2048x8x64) (kOff j) S2x512x8x64.size (kOff_inb j)
abbrev hRect (j : Fin 4) : Rect S2x512x32x64 := Rect.unit (s := S2x512x32x64) (hOff j) S2x512x8x64.size (hOff_inb j)
abbrev pRect (j : Fin 4) : Rect S4x256x768 := Rect.unit (s := S4x256x768) (pOff j) S1x256x768.size (pOff_inb j)
abbrev rRect (t : Fin 3) : Rect S3x256x768 := Rect.unit (s := S3x256x768) (pOff t) S1x256x768.size (rOff_inb t)

theorem mem_kRect (j : Fin 4) (i : S2x2048x8x64.Idx) : i ∈ (kRect j).set ↔ (i 1).val / 512 = j.val := by
  rw [Rect.mem_set_unit]
  have h0 : (i 0).val < 2 := (i 0).isLt
  have h1 : (i 1).val < 2048 := (i 1).isLt
  have h2 : (i 2).val < 8 := (i 2).isLt
  have h3 : (i 3).val < 64 := (i 3).isLt
  constructor
  · intro h; have a : 512 * j.val ≤ (i 1).val ∧ (i 1).val < 512 * j.val + 512 := h 1; omega
  · intro h a
    match a with
    | 0 => exact ⟨Nat.zero_le _, (show (i 0).val < 0 + 2 by omega)⟩
    | 1 => exact ⟨(show 512 * j.val ≤ (i 1).val by omega), (show (i 1).val < 512 * j.val + 512 by omega)⟩
    | 2 => exact ⟨Nat.zero_le _, (show (i 2).val < 0 + 8 by omega)⟩
    | 3 => exact ⟨Nat.zero_le _, (show (i 3).val < 0 + 64 by omega)⟩

theorem mem_hRect (j : Fin 4) (i : S2x512x32x64.Idx) : i ∈ (hRect j).set ↔ (i 2).val / 8 = j.val := by
  rw [Rect.mem_set_unit]
  have h0 : (i 0).val < 2 := (i 0).isLt
  have h1 : (i 1).val < 512 := (i 1).isLt
  have h2 : (i 2).val < 32 := (i 2).isLt
  have h3 : (i 3).val < 64 := (i 3).isLt
  constructor
  · intro h; have a : 8 * j.val ≤ (i 2).val ∧ (i 2).val < 8 * j.val + 8 := h 2; omega
  · intro h a
    match a with
    | 0 => exact ⟨Nat.zero_le _, (show (i 0).val < 0 + 2 by omega)⟩
    | 1 => exact ⟨Nat.zero_le _, (show (i 1).val < 0 + 512 by omega)⟩
    | 2 => exact ⟨(show 8 * j.val ≤ (i 2).val by omega), (show (i 2).val < 8 * j.val + 8 by omega)⟩
    | 3 => exact ⟨Nat.zero_le _, (show (i 3).val < 0 + 64 by omega)⟩

theorem mem_slot {n : ℕ} (j : ℕ) (inb : ∀ a, pOff j a + S1x256x768.size a ≤ (⟨3, ![n, 256, 768]⟩ : Shape).size a)
    (i : (⟨3, ![n, 256, 768]⟩ : Shape).Idx) :
    i ∈ (Rect.unit (s := ⟨3, ![n, 256, 768]⟩) (pOff j) S1x256x768.size inb).set ↔ (i 0).val = j := by
  rw [Rect.mem_set_unit]
  have h1 : (i 1).val < 256 := (i 1).isLt
  have h2 : (i 2).val < 768 := (i 2).isLt
  constructor
  · intro h; have a : j ≤ (i 0).val ∧ (i 0).val < j + 1 := h 0; omega
  · intro h a
    match a with
    | 0 => exact ⟨(show j ≤ (i 0).val by omega), (show (i 0).val < j + 1 by omega)⟩
    | 1 => exact ⟨Nat.zero_le _, (show (i 1).val < 0 + 256 by omega)⟩
    | 2 => exact ⟨Nat.zero_le _, (show (i 2).val < 0 + 768 by omega)⟩

theorem mem_pRect (j : Fin 4) (i : S4x256x768.Idx) : i ∈ (pRect j).set ↔ (i 0).val = j.val := mem_slot j.val _ i
theorem mem_rRect (t : Fin 3) (i : S3x256x768.Idx) : i ∈ (rRect t).set ↔ (i 0).val = t.val := mem_slot t.val _ i

/-- A family of sets that are the fibres of one function fills the space and is disjoint. -/
theorem fibres_cover {X : Type} [Fintype X] [DecidableEq X] {n : ℕ} (K : Fin n → Finset X) (φ : X → ℕ) (hφ : ∀ x, φ x < n)
    (h : ∀ j x, x ∈ K j ↔ φ x = j.val) : (Finset.univ : Finset (Fin n)).biUnion K = Finset.univ := by
  ext x
  simp only [Finset.mem_biUnion, Finset.mem_univ, true_and, iff_true]
  exact ⟨⟨φ x, hφ x⟩, (h _ _).mpr rfl⟩
theorem fibres_disjoint {X : Type} [DecidableEq X] {n : ℕ} (K : Fin n → Finset X) (φ : X → ℕ)
    (h : ∀ j x, x ∈ K j ↔ φ x = j.val) : ∀ j ∈ (Finset.univ : Finset (Fin n)), ∀ j' ∈ (Finset.univ : Finset (Fin n)), j ≠ j' → Disjoint (K j) (K j') :=
  fun j _ j' _ hne => Finset.disjoint_left.mpr fun x hx hx' => hne (Fin.ext (((h j x).mp hx).symm.trans ((h j' x).mp hx')))

/-! ## What the buffers hold -/

section Contents
variable (m : (ℓ : Loc nD τ sig) → Buf (Elt F) ℓ)

/-- The buffer whose position `(b, p, h, x)` is device `p / 512`'s entry `(b, p % 512, 8 c + h, x)` of its argument `A`. -/
def gath (A : Dev nD → S2x512x32x64.Idx → Elt F .f32) (c : Dev nD) : S2x2048x8x64.Idx → Elt F .f32 := fun i =>
  A ⟨(i 1).val / 512, Nat.div_lt_of_lt_mul (i 1).isLt⟩ fun
    | 0 => ⟨(i 0).val, (i 0).isLt⟩
    | 1 => ⟨(i 1).val % 512, Nat.mod_lt _ (by decide)⟩
    | 2 => ⟨8 * c.val + (i 2).val, by have h2 : (i 2).val < 8 := (i 2).isLt; have hc : c.val < 4 := c.isLt; show 8 * c.val + (i 2).val < 32; omega⟩
    | 3 => ⟨(i 3).val, (i 3).isLt⟩

/-- What device `c`'s key argument and value argument hold. -/
def aK (c : Dev nD) : S2x512x32x64.Idx → Elt F .f32 := m ((c : Thread nD τ).loc main_arg2)
def aV (c : Dev nD) : S2x512x32x64.Idx → Elt F .f32 := m ((c : Thread nD τ).loc main_arg3)

/-- All the keys (values) of device `c`'s eight heads. -/
def Kf (c : Dev nD) : S2x2048x8x64.Idx → Elt F .f32 := gath (aK m) c
def Vf (c : Dev nD) : S2x2048x8x64.Idx → Elt F .f32 := gath (aV m) c

end Contents

section Ring
-- What the partial product of each device is, four slots of 256 rows.
variable (P : Dev nD → S4x256x768.Idx → Elt F .f32)

/-- Slot `j` of a buffer numbered by its first axis. -/
def slotOf {n : ℕ} (f : (⟨3, ![n, 256, 768]⟩ : Shape).Idx → Elt F .f32) (j : Fin n) : Vec F S1x256x768 .f32 := fun x =>
  f fun
    | 0 => j
    | 1 => ⟨(x 1).val, (x 1).isLt⟩
    | 2 => ⟨(x 2).val, (x 2).isLt⟩

/-- A buffer of slots, from what each slot holds. -/
def ofSlots {n : ℕ} (g : Fin n → Vec F S1x256x768 .f32) : (⟨3, ![n, 256, 768]⟩ : Shape).Idx → Elt F .f32 := fun i =>
  g ⟨(i 0).val, (i 0).isLt⟩ fun
    | 0 => ⟨0, by decide⟩
    | 1 => ⟨(i 1).val, (i 1).isLt⟩
    | 2 => ⟨(i 2).val, (i 2).isLt⟩

/-- One step of the reduction: what device `c` holds of a slot, after `t` of the ring's additions. -/
def acc : ℕ → Dev nD → Vec F S1x256x768 .f32
  | 0, c => slotOf (P c) c
  | t + 1, c => k0_pay54 (k0_pay53 (slotOf (P c) (sh c (3 - t))) (acc t (sh c 3)))

/-- Device `c`'s partial products once the reduction has passed: slot `c - t` after `t` additions. -/
def Acc (c : Dev nD) : S4x256x768.Idx → Elt F .f32 := ofSlots fun j => acc P ((c.val + 4 - j.val) % 4) c
/-- What lands at device `c` in the reduction: at step `t` what the device before it held after `t` additions. -/
def RS (c : Dev nD) : S3x256x768.Idx → Elt F .f32 := ofSlots fun t => acc P t.val (sh c 3)
/-- The sum, the same on every device: slot `j` is finished by the device before device `j`. -/
def Of : S4x256x768.Idx → Elt F .f32 := ofSlots fun j => acc P 3 (sh j 3)

theorem slotOf_ofSlots {n : ℕ} (g : Fin n → Vec F S1x256x768 .f32) (j : Fin n) : slotOf (ofSlots g) j = g j := by
  funext x
  show g j _ = g j x
  congr 1
  funext a
  match a with
  | 0 => exact Fin.ext (by have : (x 0).val < 1 := (x 0).isLt; show 0 = (x 0).val; omega)
  | 1 => rfl
  | 2 => rfl

theorem Acc_slot (c : Dev nD) (t : ℕ) (ht : t < 4) : slotOf (Acc P c) (sh c (4 - t)) = acc P t c := by
  unfold Acc
  rw [slotOf_ofSlots]
  have : (c.val + 4 - (sh c (4 - t)).val) % 4 = t := by have := c.isLt; rw [sh_val]; omega
  rw [this]

end Ring

end Cert.KernelIdealProof

end
-- ==== Proof.Proto.lean ====
/-
# `Proto`: the transfers as a protocol — one round on every semaphore

Each device meets the three others at the barrier semaphore, copies its own share of the keys and values into place,
sends every other device the share that device needs, and passes sums round the ring.  Every semaphore is used for one
round only.  A round's units are handed over by named duties: the barrier semaphore has the duties 1, 2, 3 (duty `d` paid
by the device `4 - d` places further), every other semaphore the duty 0.  With its units a duty hands over memory: at the
barrier the slots into which the receiver is going to write, at a semaphore a transfer completes on the slot it has left
or the slot it has filled, with what that slot then holds.
-/
module

public import proofs.«01_k».proof.Proof.Geo

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Memory, slot by slot -/

abbrev kS (c : Dev nD) (j : Fin 4) (f : S2x2048x8x64.Idx → Elt F .f32) : sProp 𝕄 := ((c : Thread nD τ).loc cc0_scratch0) ↦[(kRect j).set]{fullShare} f
abbrev vS (c : Dev nD) (j : Fin 4) (f : S2x2048x8x64.Idx → Elt F .f32) : sProp 𝕄 := ((c : Thread nD τ).loc cc0_scratch1) ↦[(kRect j).set]{fullShare} f
abbrev aS (c : Dev nD) (j : Fin 4) (f : S2x512x32x64.Idx → Elt F .f32) : sProp 𝕄 := ((c : Thread nD τ).loc main_arg2) ↦[(hRect j).set]{fullShare} f
abbrev bS (c : Dev nD) (j : Fin 4) (f : S2x512x32x64.Idx → Elt F .f32) : sProp 𝕄 := ((c : Thread nD τ).loc main_arg3) ↦[(hRect j).set]{fullShare} f
abbrev pS (c : Dev nD) (j : Fin 4) (f : S4x256x768.Idx → Elt F .f32) : sProp 𝕄 := ((c : Thread nD τ).loc cc0_scratch4) ↦[(pRect j).set]{fullShare} f
abbrev rS (c : Dev nD) (t : Fin 3) (f : S3x256x768.Idx → Elt F .f32) : sProp 𝕄 := ((c : Thread nD τ).loc cc0_scratch5) ↦[(rRect t).set]{fullShare} f
abbrev oS (c : Dev nD) (j : Fin 4) (f : S4x256x768.Idx → Elt F .f32) : sProp 𝕄 := ((c : Thread nD τ).loc cc0_scratch6) ↦[(pRect j).set]{fullShare} f

/-! ## The semaphores -/

abbrev barS : Sem sig := (SemArray.scalar (sig.barrier 0 rfl) : Sems sig S_).sem

/-- The semaphores by one number: the DMA semaphores as they are numbered, the barrier semaphore after them. -/
def semAt (n : ℕ) : SemLoc sig := if h : n < 34 then .dma ⟨n, h⟩ else .reg barS
/-- and back. -/
def idx : SemLoc sig → ℕ
  | .dma q => q.val
  | .reg _ => 34

theorem idx_semAt (n : ℕ) (h : n ≤ 34) : idx (semAt n) = n := by
  unfold semAt
  split
  · rfl
  · show 34 = n; omega
theorem semAt_dma (q : DmaSem sig) : semAt q.val = .dma q := dif_pos q.isLt
theorem semAt_bar : semAt 34 = .reg barS := rfl

abbrev cell (c : Dev nD) (n : ℕ) : GSem nD τ sig := ((c : Thread nD τ), semAt n)

/-- The units a transfer of keys or values credits, and a transfer of one slot of the ring. -/
def NK : ℕ := ((Memref.whole cc0_scratch0 : Memref sig .tc .vmem S2x2048x8x64 .f32).slice (kRect 0) (fun _ => rfl)).view.dmaCredit
def NR : ℕ := (((Memref.whole cc0_scratch4 : Memref sig .tc .vmem S4x256x768 .f32).slice (pRect 0) (fun _ => rfl)).squeeze S256x768 squeezes_S1x256x768_S256x768).view.dmaCredit

theorem NK_pos : 0 < NK := View.dmaCredit_pos _ (by decide)
theorem NR_pos : 0 < NR := View.dmaCredit_pos _ (by decide)

/-- The units one duty of semaphore `n` hands over. -/
def amt (n : ℕ) : ℕ := if n = 34 then 1 else if n < 22 then NK else NR
theorem amt_pos (n : ℕ) : 0 < amt n := by
  unfold amt; split
  · exact Nat.one_pos
  · split
    · exact NK_pos
    · exact NR_pos

/-- The duties of semaphore `n`'s round: three at the barrier; one at every semaphore a transfer completes on, which the
    first of each of the four runs for the sends between different devices is not. -/
def dut (n : ℕ) : Finset (Fin 4) :=
  if n = 34 then {1, 2, 3} else if 4 ≤ n ∧ n < 34 ∧ n ≠ 6 ∧ n ≠ 10 ∧ n ≠ 14 ∧ n ≠ 18 then {0} else ∅

section Payloads
variable (m : (ℓ : Loc nD τ sig) → Buf (Elt F) ℓ) (P : Dev nD → S4x256x768.Idx → Elt F .f32)

/-- What the barrier's duty `d` hands device `c`: the two slots of the payer's (the device `4 - d` places further) into
    which `c` is going to write; and from the device that follows `c` all it will write into there in the ring. -/
def barPay (c : Dev nD) (d : Fin 4) : sProp 𝕄 :=
  iprop((∃ f, kS (sh c (4 - d.val)) c f) ∗ (∃ f, vS (sh c (4 - d.val)) c f)
    ∗ if d = 3 then iprop((∃ f, rS (sh c 1) 0 f) ∗ (∃ f, rS (sh c 1) 1 f) ∗ (∃ f, rS (sh c 1) 2 f)
        ∗ (∃ f, oS (sh c 1) (sh c 5) f) ∗ (∃ f, oS (sh c 1) (sh c 4) f) ∗ (∃ f, oS (sh c 1) (sh c 3) f)) else iprop(emp))

/-- What semaphore `n` of device `c` hands `c` with duty `d`. -/
def pay (c : Dev nD) (n : ℕ) (d : Fin 4) : sProp 𝕄 :=
  if n = 34 then barPay c d
  else if n = 4 then iprop(kS c c (Kf m c) ∗ aS c c (aK m c))
  else if n = 5 then iprop(vS c c (Vf m c) ∗ bS c c (aV m c))
  else if n < 10 then aS c (sh c (n - 6)) (aK m c)
  else if n < 14 then kS c (sh c (4 - (n - 10))) (Kf m c)
  else if n < 18 then bS c (sh c (n - 14)) (aV m c)
  else if n < 22 then vS c (sh c (4 - (n - 18))) (Vf m c)
  else if n < 25 then pS c (sh c (4 - (n - 22))) (Acc P c)
  else if n < 28 then rS c ⟨(n - 25) % 3, Nat.mod_lt _ (by decide)⟩ (RS P c)
  else if n < 31 then oS c (sh c (5 - (n - 28))) (Of P)
  else oS c (sh c (4 - (n - 31))) (Of P)

instance barPay_storable (c : Dev nD) (d : Fin 4) : BI.Storable (upEmb : UEmb _ 𝕄) (barPay (F := F) c d) := by
  unfold barPay; split <;> infer_instance
instance pay_storable (c : Dev nD) (n : ℕ) (d : Fin 4) : BI.Storable (upEmb : UEmb _ 𝕄) (pay m P c n d) := by
  unfold pay; (repeat' split) <;> infer_instance

/-- The schedule. -/
def Rd : Rounds.Schedule (GSem nD τ sig) (Fin 4) 𝕄 where
  duties g r := if r = 0 ∧ g.1.2 = .tc then dut (idx g.2) else ∅
  unitless _ := False
  amount g _ _ := amt (idx g.2)
  payload g _ d := pay m P g.1.1 (idx g.2) d
  amount_pos g _ _ _ := amt_pos _

instance Rd_payload_storable (g : GSem nD τ sig) (r : ℕ) (d : Fin 4) :
    BI.Storable (upEmb : UEmb _ 𝕄) ((Rd (F := F) m P).payload g r d) := pay_storable m P _ _ _

theorem Rd_duties (c : Dev nD) (n : ℕ) (hn : n ≤ 34) : (Rd (F := F) m P).duties (cell c n) 0 = dut n := by
  dsimp only [Rd]; rw [if_pos ⟨rfl, rfl⟩, idx_semAt n hn]
theorem Rd_later (g : GSem nD τ sig) : ∀ r, 1 ≤ r → (Rd (F := F) m P).duties g r = ∅ :=
  fun r hr => by dsimp only [Rd]; rw [if_neg fun h => by omega]
theorem Rd_unused (g : GSem nD τ sig) (h : dut (idx g.2) = ∅) : ∀ r, 0 ≤ r → (Rd (F := F) m P).duties g r = ∅ :=
  fun r _ => by dsimp only [Rd]; split <;> first | exact h | rfl
theorem Rd_amount (c : Dev nD) (n : ℕ) (hn : n ≤ 34) (d : Fin 4) : (Rd (F := F) m P).amount (cell c n) 0 d = amt n := by
  dsimp only [Rd]; rw [idx_semAt n hn]
theorem Rd_payload (c : Dev nD) (n : ℕ) (hn : n ≤ 34) (d : Fin 4) : (Rd (F := F) m P).payload (cell c n) 0 d = pay m P c n d := by
  dsimp only [Rd]; rw [idx_semAt n hn]
theorem Rd_expect (c : Dev nD) (n : ℕ) (hn : n ≤ 34) : (Rd (F := F) m P).expect (cell c n) 0 = (dut n).card * amt n := by
  unfold Schedule.expect Schedule.amountOf
  rw [Rd_duties m P c n hn, Finset.sum_congr rfl fun d _ => Rd_amount m P c n hn d, Finset.sum_const, smul_eq_mul]

/-- What the whole round of semaphore `n` hands over: at the barrier three payloads, elsewhere one. -/
theorem rest_bar (c : Dev nD) : bigSep ((Rd (F := F) m P).duties (cell c 34) 0 \ ∅) (fun d => (Rd (F := F) m P).payload (cell c 34) 0 d)
    = iprop(barPay c 1 ∗ barPay c 2 ∗ barPay c 3) := by
  rw [Finset.sdiff_empty, Rd_duties m P c 34 (by decide),
    show dut 34 = {1, 2, 3} from rfl, bigSep_insert (by decide), bigSep_insert (by decide), bigSep_singleton]
  rfl
theorem rest_one (c : Dev nD) (n : ℕ) (hn : n ≤ 34) (hd : dut n = {0}) :
    bigSep ((Rd (F := F) m P).duties (cell c n) 0 \ ∅) (fun d => (Rd (F := F) m P).payload (cell c n) 0 d) = pay m P c n 0 := by
  rw [Finset.sdiff_empty, Rd_duties m P c n hn, hd, bigSep_singleton, Rd_payload m P c n hn]

end Payloads

/-! ## What is still owed -/

/-- A debt: a semaphore of a device. The units owed to it are those of one duty. -/
abbrev Due : Type := Dev nD × ℕ

/-- The debts of a list, the first of which is paid first. -/
def oweL : List Due → CellTallies nD τ sig Unit
  | [] => 0
  | x :: l => oweL l + tallyAt (cell x.1 x.2) () (amt x.2)

/-- What device `c` owes at launch, in the order in which it pays. -/
def dues (c : Dev nD) : List Due :=
  [(sh c 1, 34), (sh c 2, 34), (sh c 3, 34), (sh c 1, 11), (sh c 1, 19), (sh c 2, 12), (sh c 2, 20), (sh c 3, 13), (sh c 3, 21),
    (sh c 1, 25), (sh c 1, 26), (sh c 1, 27), (sh c 1, 31), (sh c 1, 32), (sh c 1, 33)]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The order in which the semaphores are waited for: those a device's own transfers complete on first, then the
    barrier, the arrivals of keys and values, and the arrivals in the ring step by step. -/
def lvl (n : ℕ) : ℕ :=
  if n = 34 then 1
  else if (10 ≤ n ∧ n < 14) ∨ (18 ≤ n ∧ n < 22) then 2
  else if 25 ≤ n ∧ n < 28 then n - 22
  else if 31 ≤ n then n - 25
  else 0
def lv (g : GSem nD τ sig) (_ : Unit) : ℕ := lvl (idx g.2)

theorem oweL_pos : ∀ (l : List Due) {g : GSem nD τ sig} {u : Unit}, 0 < oweL l g u → ∃ x ∈ l, g = cell x.1 x.2
  | [], g, u, h => absurd h (Nat.lt_irrefl 0)
  | x :: l, g, u, h => by
    unfold oweL at h
    rw [Pi.add_apply, Finsupp.add_apply, tallyAt_apply] at h
    by_cases hx : g = cell x.1 x.2 ∧ u = ()
    · exact ⟨x, List.mem_cons_self, hx.1⟩
    · rw [if_neg hx, Nat.add_zero] at h
      obtain ⟨y, hy, e⟩ := oweL_pos l h
      exact ⟨y, List.mem_cons_of_mem _ hy, e⟩

/-- Waiting for a semaphore is allowed while all that is owed lies above it. -/
theorem mayWait_list (c : Dev nD) (sm : SemLoc sig) (l : List Due) (h : ∀ x ∈ l, x.2 ≤ 34 ∧ lvl (idx sm) < lvl x.2) :
    (levAts L lv : sProp 𝕄) ⊢ MayWait (c : Thread nD τ) sm () (oweL l) :=
  MayOwe.of_cut (L := L) (lev := lv) (lvl (idx sm)) (fun p hp => by rw [Finset.mem_singleton.mp hp, L_tc]; exact Finset.mem_singleton_self _)
    (fun g u hg => by obtain ⟨x, hx, rfl⟩ := oweL_pos l hg; exact Finset.mem_singleton_self _)
    (fun p hp => by rw [Finset.mem_singleton.mp hp]; exact le_refl _)
    (fun g u hg => by
      obtain ⟨x, hx, rfl⟩ := oweL_pos l hg
      show _ < lvl (idx (semAt x.2))
      rw [idx_semAt _ (h x hx).1]; exact (h x hx).2)

/-- What device `c` owes, whatever it has waited for. -/
def owing (c : Dev nD) (l : List Due) : sProp 𝕄 := iprop(∃ W, owes (c : Thread nD τ) (oweL l) W)

end Cert.KernelIdealProof

end
-- ==== Proof.Steps.lean ====
/-
# `Steps`: one rule for each operation of the protocol

A signal at the barrier, a wait for a semaphore's whole round, a local copy and a copy to another device, each stated for
the protocol of `Proto`: what must be held before the operation and what is held after it.
-/
module

public import proofs.«01_k».proof.Proof.Proto

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Rules
variable (m : (ℓ : Loc nD τ sig) → Buf (Elt F) ℓ) (P : Dev nD → S4x256x768.Idx → Elt F .f32)

/-! ## What every device knows -/

/-- Semaphore `n` of device `c` follows the protocol, and its round is open. -/
def known (c : Dev nD) (n : ℕ) : sProp 𝕄 := iprop((∃ κ, cellInv ER (Rd m P) κ (cell c n)) ∗ reached ER (cell c n) 0)
instance known_persistent (c : Dev nD) (n : ℕ) : BI.Persistent (known m P c n) := by unfold known; infer_instance

/-- Every semaphore of every device does, and the order of waiting. -/
def recs : sProp 𝕄 := iprop((bigSep Finset.univ fun ck : Dev nD × Fin 31 => known m P ck.1 (ck.2.val + 4)) ∗ levAts L lv)
instance recs_persistent : BI.Persistent (recs m P) := by
  unfold recs; infer_instance

theorem recs_known (c : Dev nD) (n : ℕ) (h4 : 4 ≤ n) (hn : n ≤ 34) : recs m P ⊢ known m P c n := by
  unfold recs
  refine sep_elim_left.trans ((bigSep_elim (Finset.mem_univ (c, (⟨n - 4, by omega⟩ : Fin 31)))).trans ?_)
  show known m P c (n - 4 + 4) ⊢ _
  rw [Nat.sub_add_cancel h4]
theorem recs_lev : recs m P ⊢ levAts L lv := by unfold recs; exact sep_elim_right

/-! ## What a device holds of a semaphore -/

/-- The right to wait for semaphore `n`'s round. -/
abbrev pos (c : Dev nD) (n : ℕ) : sProp 𝕄 := atPos ER (cell c n) 0 ∅ 0
/-- The credit with which it waits. -/
abbrev crd (c : Dev nD) (n : ℕ) : sProp 𝕄 := cred (tallyAt (cell c n) () (amt n))
/-- The right to pay duty `d` of it. -/
abbrev tok (c : Dev nD) (n : ℕ) (d : Fin 4) : sProp 𝕄 := dutyTok ER (cell c n) 0 d
/-- Its counter at zero, when it is done with. -/
abbrev zer (c : Dev nD) (n : ℕ) : sProp 𝕄 := semVal (cell c n) 0

/-! ## The rules -/

/-- A signal at the barrier: one unit of device `c'`'s duty `d`, with what that duty hands over. -/
theorem st_signal (c n c' : Dev nD) (hn : n = c') (d : Fin 4) (hd : d ∈ dut 34) (l : List Due)
    {α : Type} {Q : α → sProp 𝕄} {k : PUnit → Prog (TpuEff nD τ sig (Elt F) Λ₀ .tc) α} :
    iprop(recs m P ∗ owing c ((c', 34) :: l) ∗ tok c' 34 d ∗ barPay c' d)
      ⊢ iprop((owing c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, .tc) barS (1#32).toInt) k) Q) := by
  subst hn
  rw [show barPay n d = (Rd m P).payload ((n : Thread nD τ), SemLoc.reg barS) 0 d from (Rd_payload m P n 34 (by decide) d).symm]
  unfold owing
  iintro ⟨#HR, ⟨%W, HO⟩, Htok, Hpay⟩ Hk
  ihave #Hc := (recs_known m P n 34 (by decide) (by decide)) $$ HR
  unfold known
  icases Hc with ⟨⟨%κ, #HI⟩, #Hr⟩
  iapply (Rounds.wp_signal 𝒱₀ ER (Rd m P) (c : Thread nD τ) none (dst := (n : Thread nD τ)) (κ := κ)
      (d := d) (by rw [show (((n : Thread nD τ), SemLoc.reg barS) : GSem nD τ sig) = cell n 34 from rfl, Rd_duties m P n 34 (by decide)]; exact hd)
      ((Rd_amount m P n 34 (by decide) d).trans (by decide)) () (oweL l) rfl) $$ [HO Htok Hpay]
  · isplitr; · iexact HI
    isplitl [HO]; · iexact HO
    isplitl [Htok]; · iexact Htok
    isplitl [Hpay]; · iexact Hpay
    iexact Hr
  iintro HO
  iapply Hk
  iexists W; iexact HO

/-- The wait at the barrier for the three others. -/
theorem st_wait_bar (c : Dev nD) (l : List Due) (hl : (l.map Prod.snd).all (fun x => decide (x ≤ 34 ∧ 1 < lvl x)) = true)
    {α : Type} {Q : α → sProp 𝕄} {k : PUnit → Prog (TpuEff nD τ sig (Elt F) Λ₀ .tc) α} :
    iprop(recs m P ∗ owing c l ∗ pos c 34 ∗ cred (tallyAt (cell c 34) () 3))
      ⊢ iprop(((owing c l ∗ zer c 34 ∗ barPay c 1 ∗ barPay c 2 ∗ barPay c 3) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (3#32).toInt) k) Q) := by
  unfold owing
  iintro ⟨#HR, ⟨%W, HO⟩, Hat, Hcr⟩ Hk
  ihave #Hc := (recs_known m P c 34 (by decide) (by decide)) $$ HR
  ihave #Hlev := (recs_lev m P) $$ HR
  unfold known
  icases Hc with ⟨⟨%κ, #HI⟩, #Hr⟩
  iapply (Rounds.wp_wait_rest_token 𝒱₀ ER (Rd m P) (c : Thread nD τ) none (κ := κ)
      (wpE_semWait_eq 𝒱₀ (c : Thread nD τ) none Set.univ) (Set.mem_univ _) () (O := oweL l) (W := W) (R := 0) (m := 0) (T := ∅)
      (by rw [show (((c : Thread nD τ), SemLoc.reg barS) : GSem nD τ sig) = cell c 34 from rfl, Rd_expect m P c 34 (by decide)]; decide)) $$ [Hcr HO Hat]
  · isplitr; · iexact HI
    isplitl [Hcr]; · iexact Hcr
    isplitl [HO]; · iexact HO
    isplitr
    · iapply (mayWait_list c (.reg barS) l (fun x hx => of_decide_eq_true (List.all_eq_true.mp hl x.2 (List.mem_map_of_mem hx)))); iexact Hlev
    iexact Hat
  iintro ⟨HO, Hat, -, Hpay⟩
  ihave Hp := (show bigSep ((Rd m P).duties ((c : Thread nD τ), SemLoc.reg barS) 0 \ ∅) (fun d => (Rd m P).payload ((c : Thread nD τ), SemLoc.reg barS) 0 d)
      ⊢ iprop(barPay c 1 ∗ barPay c 2 ∗ barPay c 3) from Entails.of_eq (rest_bar m P c)) $$ Hpay
  imod (Rounds.cell_close ER (Rd m P) (Set.mem_univ κ) (fun h => h) (R := 0 + 1) (Rd_later m P (cell c 34))) $$ [Hat] with Hz
  · isplitr; · iexact HI
    iexact Hat
  iapply Hk
  isplitl [HO]; · iexists _; iexact HO
  isplitl [Hz]; · iexact Hz
  iexact Hp

/-- The wait for a transfer. -/
theorem st_wait (c : Dev nD) (n : ℕ) {q : DmaSem sig} (hq : q.val = n) (h4 : 4 ≤ n) (hd : dut n = {0})
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt n)
    (l : List Due) (hl : (l.map Prod.snd).all (fun x => decide (x ≤ 34 ∧ lvl n < lvl x)) = true)
    {α : Type} {Q : α → sProp 𝕄} {k : PUnit → Prog (TpuEff nD τ sig (Elt F) Λ₀ .tc) α} :
    iprop(recs m P ∗ owing c l ∗ pos c n ∗ crd c n)
      ⊢ iprop(((owing c l ∗ zer c n ∗ pay m P c n 0) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hq
  have hn : q.val ≤ 34 := Nat.le_of_lt (show q.val < 34 from q.isLt)
  have hc : cell c q.val = ((c : Thread nD τ), SemLoc.dma q) := by unfold cell; rw [semAt_dma]
  unfold owing
  iintro ⟨#HR, ⟨%W, HO⟩, Hat, Hcr⟩ Hk
  ihave #Hc := (recs_known m P c q.val h4 hn) $$ HR
  ihave #Hlev := (recs_lev m P) $$ HR
  unfold known pos crd zer
  rw [hc, ← hN]
  icases Hc with ⟨⟨%κ, #HI⟩, #Hr⟩
  iapply (Rounds.wp_wait_rest_token 𝒱₀ ER (Rd m P) (c : Thread nD τ) none (κ := κ)
      (wpE_waitDma2_eq 𝒱₀ (c : Thread nD τ) none Set.univ) (Set.mem_univ _) () (O := oweL l) (W := W) (R := 0) (m := 0) (T := ∅)
      (by rw [← hc, Rd_expect m P c _ hn, hd, Finset.card_singleton, Nat.one_mul, Nat.zero_add, hN])) $$ [Hcr HO Hat]
  · isplitr; · iexact HI
    isplitl [Hcr]; · iexact Hcr
    isplitl [HO]; · iexact HO
    isplitr
    · iapply (mayWait_list c (.dma q) l (fun x hx => of_decide_eq_true (List.all_eq_true.mp hl x.2 (List.mem_map_of_mem hx)))); iexact Hlev
    iexact Hat
  iintro ⟨HO, Hat, -, Hpay⟩
  imod (Rounds.cell_close ER (Rd m P) (Set.mem_univ κ) (fun h => h) (R := 0 + 1) (Rd_later m P ((c : Thread nD τ), SemLoc.dma q))) $$ [Hat] with Hz
  · isplitr; · iexact HI
    iexact Hat
  ihave Hpay := (show bigSep ((Rd m P).duties ((c : Thread nD τ), SemLoc.dma q) 0 \ ∅) (fun d => (Rd m P).payload ((c : Thread nD τ), SemLoc.dma q) 0 d)
      ⊢ pay m P c q.val 0 from Entails.of_eq (by rw [← hc]; exact rest_one m P c _ hn hd)) $$ Hpay
  iapply Hk
  isplitl [HO]; · iexists _; iexact HO
  isplitl [Hz]; · iexact Hz
  iexact Hpay

/-- A copy within a device. -/
theorem st_copy (c : Dev nD) (n : ℕ) {q : DmaSem sig} (hq : q.val = n) (h4 : 4 ≤ n) (hd : (0 : Fin 4) ∈ dut n)
    {sp sp' : Space} {s : Shape} {e : EltTy} {src : Memref sig .tc sp s e} {dst : Memref sig .tc sp' s e}
    {hsrc : src.view.WordExact} {hdst : dst.view.WordExact} {hsem : DmaTarget.Typed (nD := nD) (τ := τ) sp (.dma q) (.here (p := .tc) dst)}
    (hN : dst.view.dmaCredit = amt n) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ pay m P c n 0)
    {α : Type} {Q : α → sProp 𝕄} {k : PUnit → Prog (TpuEff nD τ sig (Elt F) Λ₀ .tc) α} :
    iprop(recs m P ∗ tok c n 0 ∗ (src.view.loc (c : Thread nD τ) ↦[src.view.set]{fullShare} fs) ∗ (dst.view.loc (c : Thread nD τ) ↦[dst.view.set]{fullShare} fd))
      ⊢ iprop((crd c n -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma q) hsrc hdst hsem) k) Q) := by
  subst hq
  have hn : q.val ≤ 34 := Nat.le_of_lt (show q.val < 34 from q.isLt)
  have hc : cell c q.val = ((c : Thread nD τ), SemLoc.dma q) := by unfold cell; rw [semAt_dma]
  iintro ⟨#HR, Htok, Hs, Hd⟩ Hk
  ihave #Hc := (recs_known m P c q.val h4 hn) $$ HR
  unfold known tok crd
  rw [hc, ← hN]
  icases Hc with ⟨⟨%κ, #HI⟩, #Hr⟩
  iapply (Rounds.wp_copy_pointsTo 𝒱₀ ER (Rd m P) (c : Thread nD τ) none (κ := κ) (r := 0) (d := 0) (fs := fs) (fd := fd) (q := fullShare)
      (by rw [← hc, Rd_duties m P c _ hn]; exact hd) () dst.view.dmaCredit rfl (by rw [← hc, Rd_amount m P c _ hn, hN])
      (by rw [← hc, Rd_payload m P c _ hn]; exact hpay)) $$ [Htok Hs Hd]
  · isplitr; · iexact HI
    isplitl [Hs]; · iexact Hs
    isplitl [Hd]; · iexact Hd
    isplitl [Htok]; · iexact Htok
    iexact Hr
  iexact Hk

/-- A copy to another device: the source comes back at semaphore `n₁`, the destination arrives at semaphore `n₂` there. -/
theorem st_send (c n c' : Dev nD) (hn : n = c') (n₁ n₂ : ℕ) {q₁ q₂ : DmaSem sig} (hq₁ : q₁.val = n₁) (hq₂ : q₂.val = n₂) (h₁ : 4 ≤ n₁) (h₂ : 4 ≤ n₂)
    (hd₁ : (0 : Fin 4) ∈ dut n₁) (hd₂ : (0 : Fin 4) ∈ dut n₂) (ha : amt n₁ = amt n₂)
    {sp sp' : Space} {s : Shape} {e : EltTy} {src : Memref sig .tc sp s e} {dst : Memref sig .tc sp' s e}
    {hsc : (show Memref sig (Dev.tc n : Thread nD τ).2.kind sp' s e from dst).view.ref.isScScratch = false}
    {hsrc : src.view.WordExact} {hdst : dst.view.WordExact}
    {hsem : DmaTarget.Typed sp (.dma q₂) (.remote (Dev.tc n : Thread nD τ) dst (.dma q₁) hsc)}
    (hN : dst.view.dmaCredit = amt n₂) (fs : Buf (Elt F) (src.view.loc (c : Thread nD τ))) (fd : Buf (Elt F) (dst.view.loc (c' : Thread nD τ)))
    (hpay₁ : (src.view.loc (c : Thread nD τ) ↦[src.view.set]{fullShare} fs) ⊢ pay m P c n₁ 0)
    (hpay₂ : (dst.view.loc (c' : Thread nD τ) ↦[dst.view.set]{fullShare} (dst.view.write (Elt F) fd (src.view.read (Elt F) fs) Finset.univ)) ⊢ pay m P c' n₂ 0)
    (l : List Due)
    {α : Type} {Q : α → sProp 𝕄} {k : PUnit → Prog (TpuEff nD τ sig (Elt F) Λ₀ .tc) α} :
    iprop(recs m P ∗ owing c ((c', n₂) :: l) ∗ tok c n₁ 0 ∗ tok c' n₂ 0
        ∗ (src.view.loc (c : Thread nD τ) ↦[src.view.set]{fullShare} fs) ∗ (dst.view.loc (c' : Thread nD τ) ↦[dst.view.set]{fullShare} fd))
      ⊢ iprop(((owing c l ∗ crd c n₁) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma q₁) hsc) (.dma q₂) hsrc hdst hsem) k) Q) := by
  subst hn hq₁ hq₂
  have hn₁ : q₁.val ≤ 34 := Nat.le_of_lt (show q₁.val < 34 from q₁.isLt)
  have hn₂ : q₂.val ≤ 34 := Nat.le_of_lt (show q₂.val < 34 from q₂.isLt)
  have hc₁ : cell c q₁.val = ((c : Thread nD τ), SemLoc.dma q₁) := by unfold cell; rw [semAt_dma]
  have hc₂ : cell n q₂.val = ((n : Thread nD τ), SemLoc.dma q₂) := by unfold cell; rw [semAt_dma]
  unfold owing
  iintro ⟨#HR, ⟨%W, HO⟩, Ht₁, Ht₂, Hs, Hd⟩ Hk
  ihave #H₁ := (recs_known m P c q₁.val h₁ hn₁) $$ HR
  ihave #H₂ := (recs_known m P n q₂.val h₂ hn₂) $$ HR
  unfold known tok crd
  rw [show oweL ((n, q₂.val) :: l) = oweL l + tallyAt (cell n q₂.val) () (amt q₂.val) from rfl, hc₁, hc₂, ha, ← hN]
  icases H₁ with ⟨⟨%κ₁, #HI₁⟩, #Hr₁⟩
  icases H₂ with ⟨⟨%κ₂, #HI₂⟩, #Hr₂⟩
  iapply (Rounds.wp_send_pointsTo 𝒱₀ ER (Rd m P) (c : Thread nD τ) none (κ₁ := κ₁) (κ₂ := κ₂) (c' := (n : Thread nD τ))
      (r₁ := 0) (r₂ := 0) (d₁ := 0) (d₂ := 0) (fs := fs) (fd := fd) (q := fullShare)
      (by rw [← hc₁, Rd_duties m P c _ hn₁]; exact hd₁) (by rw [← hc₂, Rd_duties m P n _ hn₂]; exact hd₂) () () dst.view.dmaCredit rfl
      (by rw [← hc₁, Rd_amount m P c _ hn₁, hN, ha]) (by rw [← hc₂, Rd_amount m P n _ hn₂, hN]) (oweL l) rfl (W := W)
      (by rw [← hc₁, Rd_payload m P c _ hn₁]; exact hpay₁) (by rw [← hc₂, Rd_payload m P n _ hn₂]; exact hpay₂)) $$ [HO Ht₁ Ht₂ Hs Hd]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hcr, HO⟩
  iapply Hk
  isplitl [HO]; · iexists W; iexact HO
  iexact Hcr

end Rules

end Cert.KernelIdealProof

end
-- ==== Proof.Moves.lean ====
/-
# `Moves`: the kernel's transfers

Each copy and each wait of the kernel as an instance of a rule of `Steps`: which slot is read, which is written, and that what
is written is what the slot is to hold.
-/
module

public import proofs.«01_k».proof.Proof.Steps

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The slots as views -/

abbrev kV (off : Fin 4 → ℕ) (inb : ∀ a, off a + S2x512x8x64.size a ≤ S2x2048x8x64.size a) : Memref sig .tc .vmem S2x512x8x64 .f32 :=
  (Memref.whole cc0_scratch0 : Memref sig .tc .vmem S2x2048x8x64 .f32).slice (Rect.unit (s := S2x2048x8x64) off S2x512x8x64.size inb) (fun _ => rfl)
abbrev vV (off : Fin 4 → ℕ) (inb : ∀ a, off a + S2x512x8x64.size a ≤ S2x2048x8x64.size a) : Memref sig .tc .vmem S2x512x8x64 .f32 :=
  (Memref.whole cc0_scratch1 : Memref sig .tc .vmem S2x2048x8x64 .f32).slice (Rect.unit (s := S2x2048x8x64) off S2x512x8x64.size inb) (fun _ => rfl)
abbrev aV' (off : Fin 4 → ℕ) (inb : ∀ a, off a + S2x512x8x64.size a ≤ S2x512x32x64.size a) : Memref sig .tc .hbm S2x512x8x64 .f32 :=
  (Memref.whole main_arg2 : Memref sig .tc .hbm S2x512x32x64 .f32).slice (Rect.unit (s := S2x512x32x64) off S2x512x8x64.size inb) (fun _ => rfl)
abbrev bV' (off : Fin 4 → ℕ) (inb : ∀ a, off a + S2x512x8x64.size a ≤ S2x512x32x64.size a) : Memref sig .tc .hbm S2x512x8x64 .f32 :=
  (Memref.whole main_arg3 : Memref sig .tc .hbm S2x512x32x64 .f32).slice (Rect.unit (s := S2x512x32x64) off S2x512x8x64.size inb) (fun _ => rfl)
abbrev pV (off : Fin 3 → ℕ) (inb : ∀ a, off a + S1x256x768.size a ≤ S4x256x768.size a) : Memref sig .tc .vmem S256x768 .f32 :=
  ((Memref.whole cc0_scratch4 : Memref sig .tc .vmem S4x256x768 .f32).slice (Rect.unit (s := S4x256x768) off S1x256x768.size inb) (fun _ => rfl)).squeeze S256x768 squeezes_S1x256x768_S256x768
abbrev rV (off : Fin 3 → ℕ) (inb : ∀ a, off a + S1x256x768.size a ≤ S3x256x768.size a) : Memref sig .tc .vmem S256x768 .f32 :=
  ((Memref.whole cc0_scratch5 : Memref sig .tc .vmem S3x256x768 .f32).slice (Rect.unit (s := S3x256x768) off S1x256x768.size inb) (fun _ => rfl)).squeeze S256x768 squeezes_S1x256x768_S256x768
abbrev oV (off : Fin 3 → ℕ) (inb : ∀ a, off a + S1x256x768.size a ≤ S4x256x768.size a) : Memref sig .tc .vmem S256x768 .f32 :=
  ((Memref.whole cc0_scratch6 : Memref sig .tc .vmem S4x256x768 .f32).slice (Rect.unit (s := S4x256x768) off S1x256x768.size inb) (fun _ => rfl)).squeeze S256x768 squeezes_S1x256x768_S256x768

theorem kV_amt (off inb) : (kV off inb).view.dmaCredit = NK := rfl
theorem vV_amt (off inb) : (vV off inb).view.dmaCredit = NK := rfl
theorem aV_amt (off inb) : (aV' off inb).view.dmaCredit = NK := rfl
theorem bV_amt (off inb) : (bV' off inb).view.dmaCredit = NK := rfl
theorem pV_amt (off inb) : (pV off inb).view.dmaCredit = NR := rfl
theorem rV_amt (off inb) : (rV off inb).view.dmaCredit = NR := rfl
theorem oV_amt (off inb) : (oV off inb).view.dmaCredit = NR := rfl

theorem kV_set (off inb) : (kV off inb).view.set = (Rect.unit (s := S2x2048x8x64) off S2x512x8x64.size inb).set := View.set_slice_whole ..
theorem vV_set (off inb) : (vV off inb).view.set = (Rect.unit (s := S2x2048x8x64) off S2x512x8x64.size inb).set := View.set_slice_whole ..
theorem aV_set (off inb) : (aV' off inb).view.set = (Rect.unit (s := S2x512x32x64) off S2x512x8x64.size inb).set := View.set_slice_whole ..
theorem bV_set (off inb) : (bV' off inb).view.set = (Rect.unit (s := S2x512x32x64) off S2x512x8x64.size inb).set := View.set_slice_whole ..
theorem pV_set (off inb) : (pV off inb).view.set = (Rect.unit (s := S4x256x768) off S1x256x768.size inb).set := (View.set_reshape ..).trans (View.set_slice_whole ..)
theorem rV_set (off inb) : (rV off inb).view.set = (Rect.unit (s := S3x256x768) off S1x256x768.size inb).set := (View.set_reshape ..).trans (View.set_slice_whole ..)
theorem oV_set (off inb) : (oV off inb).view.set = (Rect.unit (s := S4x256x768) off S1x256x768.size inb).set := (View.set_reshape ..).trans (View.set_slice_whole ..)

/-! ## What a transfer writes -/

/-- What is written through a view is `g` there, when `g` read through the view is what was written. -/
theorem landed {sp : Space} {s : Shape} {e : EltTy} (dst : View sig .tc sp s e) (c : Dev nD) (fd g : dst.ty.Contents (Elt F)) (w : s.Idx → Elt F e)
    (h : ∀ x, dst.read (Elt F) g x = w x) :
    (dst.loc (c : Thread nD τ) ↦[dst.set]{fullShare} dst.write (Elt F) fd w Finset.univ : sProp 𝕄) = (dst.loc (c : Thread nD τ) ↦[dst.set]{fullShare} g) :=
  pointsTo_congr fun i hi => by
    obtain ⟨x, -, rfl⟩ := Finset.mem_map.mp hi
    have e : dst.read (Elt F) (dst.write (Elt F) fd w Finset.univ) x = dst.read (Elt F) g x := by rw [View.read_write_univ, h]
    rw [View.read_apply, View.read_apply] at e
    exact (cast_inj _).mp e

theorem gath_slot (A : Dev nD → S2x512x32x64.Idx → Elt F .f32) (c' c : Dev nD) (x : S2x512x8x64.Idx) :
    gath A c' ((kRect c).emb x) = A c ((hRect c').emb x) := by
  have h1 : (x 1).val < 512 := (x 1).isLt
  unfold gath
  have e : (⟨((kRect c).emb x 1).val / 512, Nat.div_lt_of_lt_mul ((kRect c).emb x 1).isLt⟩ : Dev nD) = c :=
    Fin.ext (by show (512 * c.val + 1 * (x 1).val) / 512 = c.val; omega)
  rw [e]
  congr 1
  funext a
  match a with
  | 0 => rfl
  | 1 => exact Fin.ext (by show (512 * c.val + 1 * (x 1).val) % 512 = 0 + 1 * (x 1).val; omega)
  | 2 => exact Fin.ext (by show 8 * c'.val + (0 + 1 * (x 2).val) = 8 * c'.val + 1 * (x 2).val; omega)
  | 3 => rfl

/-- Position `x` of slot `j` of a buffer of slots. -/
theorem slot_emb {n : ℕ} (f : (⟨3, ![n, 256, 768]⟩ : Shape).Idx → Elt F .f32) (j : Fin n) (inb : ∀ a, pOff j a + S1x256x768.size a ≤ (⟨3, ![n, 256, 768]⟩ : Shape).size a)
    (x : S1x256x768.Idx) : f ((Rect.unit (s := ⟨3, ![n, 256, 768]⟩) (pOff j) S1x256x768.size inb).emb x) = slotOf f j x := by
  unfold slotOf
  congr 1
  funext a
  match a with
  | 0 => exact Fin.ext (by have : (x 0).val < 1 := (x 0).isLt; show j.val + 1 * (x 0).val = j.val; omega)
  | 1 => exact Fin.ext (by show 0 + 1 * (x 1).val = (x 1).val; omega)
  | 2 => exact Fin.ext (by show 0 + 1 * (x 2).val = (x 2).val; omega)

/-! ## The payloads, by number -/

section Moves
variable (m : (ℓ : Loc nD τ sig) → Buf (Elt F) ℓ) (P : Dev nD → S4x256x768.Idx → Elt F .f32)

theorem three {o : ℕ} (h : 1 ≤ o ∧ o ≤ 3) : o = 1 ∨ o = 2 ∨ o = 3 := by omega

theorem pay_own (c : Dev nD) : pay m P c 4 0 = iprop(kS c c (Kf m c) ∗ aS c c (aK m c)) := rfl
theorem pay_own' (c : Dev nD) : pay m P c 5 0 = iprop(vS c c (Vf m c) ∗ bS c c (aV m c)) := rfl
theorem pay_ksend (c : Dev nD) (o : ℕ) (h : 1 ≤ o ∧ o ≤ 3) : pay m P c (6 + o) 0 = aS c (sh c o) (aK m c) := by
  rcases three h with rfl | rfl | rfl <;> rfl
theorem pay_krecv (c : Dev nD) (o : ℕ) (h : 1 ≤ o ∧ o ≤ 3) : pay m P c (10 + o) 0 = kS c (sh c (4 - o)) (Kf m c) := by
  rcases three h with rfl | rfl | rfl <;> rfl
theorem pay_vsend (c : Dev nD) (o : ℕ) (h : 1 ≤ o ∧ o ≤ 3) : pay m P c (14 + o) 0 = bS c (sh c o) (aV m c) := by
  rcases three h with rfl | rfl | rfl <;> rfl
theorem pay_vrecv (c : Dev nD) (o : ℕ) (h : 1 ≤ o ∧ o ≤ 3) : pay m P c (18 + o) 0 = vS c (sh c (4 - o)) (Vf m c) := by
  rcases three h with rfl | rfl | rfl <;> rfl
theorem pay_rsend (c : Dev nD) (t : Fin 3) : pay m P c (22 + t) 0 = pS c (sh c (4 - t)) (Acc P c) := by fin_cases t <;> rfl
theorem pay_rrecv (c : Dev nD) (t : Fin 3) : pay m P c (25 + t) 0 = rS c t (RS P c) := by fin_cases t <;> rfl
theorem pay_gsend (c : Dev nD) (t : Fin 3) : pay m P c (28 + t) 0 = oS c (sh c (5 - t)) (Of P) := by fin_cases t <;> rfl
theorem pay_grecv (c : Dev nD) (t : Fin 3) : pay m P c (31 + t) 0 = oS c (sh c (4 - t)) (Of P) := by fin_cases t <;> rfl

theorem sh_back (c : Dev nD) (o : ℕ) (h : o ≤ 4) : sh (sh c o) (4 - o) = c := by
  rw [sh_sh, Nat.add_sub_cancel' h, sh_four]

/-! ## The copies -/

/-- A device's own share of the keys goes into place. -/
theorem copy_K (c : Dev nD) {q : DmaSem sig} (hq : q.val = 4) {off off'} {inb inb'} (ho : off = kOff c) (ho' : off' = hOff c)
    {hsrc : (aV' off' inb').view.WordExact} {hdst : (kV off inb).view.WordExact} {hsem : DmaTarget.Typed (nD := nD) (τ := τ) .hbm (.dma q) (.here (p := .tc) (kV off inb))}
    {α : Type} {Q : α → sProp 𝕄} {k : PUnit → Prog (TpuEff nD τ sig (Elt F) Λ₀ .tc) α} :
    iprop(recs m P ∗ tok c 4 0 ∗ aS c c (aK m c) ∗ (∃ f, kS c c f))
      ⊢ iprop((crd c 4 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (aV' off' inb') (.here (kV off inb)) (.dma q) hsrc hdst hsem) k) Q) := by
  subst ho ho'
  iintro ⟨#HR, Htok, Ha, ⟨%f, Hk⟩⟩
  iapply (st_copy m P c 4 hq (by decide) (by decide) (src := aV' (hOff c) inb') (dst := kV (kOff c) inb) (kV_amt _ _) (aK m c) f
    (by
      rw [landed (kV (kOff c) inb).view c f (Kf m c) (View.read (Elt F) (aV' (hOff c) inb').view (aK m c)) (fun x => gath_slot (aK m) c c x), kV_set, aV_set]; exact .rfl)) $$ [Htok Ha Hk]
  rw [kV_set, aV_set]
  isplitr; · iexact HR
  isplitl [Htok]; · iexact Htok
  isplitl [Ha]; · iexact Ha
  iexact Hk

/-- The share of the keys that device `c + o` needs goes there. -/
theorem send_K (c n : Dev nD) (o : ℕ) (h : 1 ≤ o ∧ o ≤ 3) (hn : n = sh c o) {q₁ q₂ : DmaSem sig} (hq₁ : q₁.val = 6 + o) (hq₂ : q₂.val = 10 + o)
    {off off'} {inb inb'} (ho : off = kOff c) (ho' : off' = hOff (sh c o))
    {hsc : (show Memref sig (Dev.tc n : Thread nD τ).2.kind .vmem S2x512x8x64 .f32 from kV off inb).view.ref.isScScratch = false}
    {hsrc : (aV' off' inb').view.WordExact} {hdst : (kV off inb).view.WordExact}
    {hsem : DmaTarget.Typed .hbm (.dma q₂) (.remote (Dev.tc n : Thread nD τ) (kV off inb) (.dma q₁) hsc)} (l : List Due)
    {α : Type} {Q : α → sProp 𝕄} {k : PUnit → Prog (TpuEff nD τ sig (Elt F) Λ₀ .tc) α} :
    iprop(recs m P ∗ owing c ((sh c o, 10 + o) :: l) ∗ tok c (6 + o) 0 ∗ tok (sh c o) (10 + o) 0 ∗ aS c (sh c o) (aK m c) ∗ (∃ f, kS (sh c o) c f))
      ⊢ iprop(((owing c l ∗ crd c (6 + o)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (aV' off' inb') (.remote (Dev.tc n : Thread nD τ) (kV off inb) (.dma q₁) hsc) (.dma q₂) hsrc hdst hsem) k) Q) := by
  subst ho ho'
  have ha₁ : amt (6 + o) = NK := by unfold amt; rw [if_neg (by omega), if_pos (by omega)]
  have ha₂ : amt (10 + o) = NK := by unfold amt; rw [if_neg (by omega), if_pos (by omega)]
  iintro ⟨#HR, HO, Ht₁, Ht₂, Ha, ⟨%f, Hk⟩⟩
  iapply (st_send m P c n (sh c o) hn (6 + o) (10 + o) hq₁ hq₂ (by omega) (by omega) (by rcases three h with rfl | rfl | rfl <;> decide) (by rcases three h with rfl | rfl | rfl <;> decide)
    (ha₁.trans ha₂.symm) (src := aV' (hOff (sh c o)) inb') (dst := kV (kOff c) inb) ((kV_amt _ _).trans ha₂.symm) (aK m c) f
    (by rw [aV_set, pay_ksend m P c o h])
    (by
      rw [landed (kV (kOff c) inb).view (sh c o) f (Kf m (sh c o)) (View.read (Elt F) (aV' (hOff (sh c o)) inb').view (aK m c)) (fun x => gath_slot (aK m) (sh c o) c x), kV_set, pay_krecv m P _ o h, sh_back c o (by omega)]) l) $$ [HO Ht₁ Ht₂ Ha Hk]
  rw [kV_set, aV_set]
  isplitr; · iexact HR
  isplitl [HO]; · iexact HO
  isplitl [Ht₁]; · iexact Ht₁
  isplitl [Ht₂]; · iexact Ht₂
  isplitl [Ha]; · iexact Ha
  iexact Hk

/-- A device's own share of the values goes into place. -/
theorem copy_V (c : Dev nD) {q : DmaSem sig} (hq : q.val = 5) {off off'} {inb inb'} (ho : off = kOff c) (ho' : off' = hOff c)
    {hsrc : (bV' off' inb').view.WordExact} {hdst : (vV off inb).view.WordExact} {hsem : DmaTarget.Typed (nD := nD) (τ := τ) .hbm (.dma q) (.here (p := .tc) (vV off inb))}
    {α : Type} {Q : α → sProp 𝕄} {k : PUnit → Prog (TpuEff nD τ sig (Elt F) Λ₀ .tc) α} :
    iprop(recs m P ∗ tok c 5 0 ∗ bS c c (aV m c) ∗ (∃ f, vS c c f))
      ⊢ iprop((crd c 5 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bV' off' inb') (.here (vV off inb)) (.dma q) hsrc hdst hsem) k) Q) := by
  subst ho ho'
  iintro ⟨#HR, Htok, Ha, ⟨%f, Hk⟩⟩
  iapply (st_copy m P c 5 hq (by decide) (by decide) (src := bV' (hOff c) inb') (dst := vV (kOff c) inb) (vV_amt _ _) (aV m c) f
    (by
      rw [landed (vV (kOff c) inb).view c f (Vf m c) (View.read (Elt F) (bV' (hOff c) inb').view (aV m c)) (fun x => gath_slot (aV m) c c x), vV_set, bV_set]; exact .rfl)) $$ [Htok Ha Hk]
  rw [vV_set, bV_set]
  isplitr; · iexact HR
  isplitl [Htok]; · iexact Htok
  isplitl [Ha]; · iexact Ha
  iexact Hk

/-- The share of the values that device `c + o` needs goes there. -/
theorem send_V (c n : Dev nD) (o : ℕ) (h : 1 ≤ o ∧ o ≤ 3) (hn : n = sh c o) {q₁ q₂ : DmaSem sig} (hq₁ : q₁.val = 14 + o) (hq₂ : q₂.val = 18 + o)
    {off off'} {inb inb'} (ho : off = kOff c) (ho' : off' = hOff (sh c o))
    {hsc : (show Memref sig (Dev.tc n : Thread nD τ).2.kind .vmem S2x512x8x64 .f32 from vV off inb).view.ref.isScScratch = false}
    {hsrc : (bV' off' inb').view.WordExact} {hdst : (vV off inb).view.WordExact}
    {hsem : DmaTarget.Typed .hbm (.dma q₂) (.remote (Dev.tc n : Thread nD τ) (vV off inb) (.dma q₁) hsc)} (l : List Due)
    {α : Type} {Q : α → sProp 𝕄} {k : PUnit → Prog (TpuEff nD τ sig (Elt F) Λ₀ .tc) α} :
    iprop(recs m P ∗ owing c ((sh c o, 18 + o) :: l) ∗ tok c (14 + o) 0 ∗ tok (sh c o) (18 + o) 0 ∗ bS c (sh c o) (aV m c) ∗ (∃ f, vS (sh c o) c f))
      ⊢ iprop(((owing c l ∗ crd c (14 + o)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (bV' off' inb') (.remote (Dev.tc n : Thread nD τ) (vV off inb) (.dma q₁) hsc) (.dma q₂) hsrc hdst hsem) k) Q) := by
  subst ho ho'
  have ha₁ : amt (14 + o) = NK := by unfold amt; rw [if_neg (by omega), if_pos (by omega)]
  have ha₂ : amt (18 + o) = NK := by unfold amt; rw [if_neg (by omega), if_pos (by omega)]
  iintro ⟨#HR, HO, Ht₁, Ht₂, Ha, ⟨%f, Hk⟩⟩
  iapply (st_send m P c n (sh c o) hn (14 + o) (18 + o) hq₁ hq₂ (by omega) (by omega) (by rcases three h with rfl | rfl | rfl <;> decide) (by rcases three h with rfl | rfl | rfl <;> decide)
    (ha₁.trans ha₂.symm) (src := bV' (hOff (sh c o)) inb') (dst := vV (kOff c) inb) ((vV_amt _ _).trans ha₂.symm) (aV m c) f
    (by rw [bV_set, pay_vsend m P c o h])
    (by
      rw [landed (vV (kOff c) inb).view (sh c o) f (Vf m (sh c o)) (View.read (Elt F) (bV' (hOff (sh c o)) inb').view (aV m c)) (fun x => gath_slot (aV m) (sh c o) c x), vV_set, pay_vrecv m P _ o h, sh_back c o (by omega)]) l) $$ [HO Ht₁ Ht₂ Ha Hk]
  rw [vV_set, bV_set]
  isplitr; · iexact HR
  isplitl [HO]; · iexact HO
  isplitl [Ht₁]; · iexact Ht₁
  isplitl [Ht₂]; · iexact Ht₂
  isplitl [Ha]; · iexact Ha
  iexact Hk

/-- A slot of the partial products goes to the next device. -/
theorem send_R (c n : Dev nD) (t : Fin 3) (hn : n = sh c 1) {q₁ q₂ : DmaSem sig} (hq₁ : q₁.val = 22 + t) (hq₂ : q₂.val = 25 + t)
    {off off'} {inb inb'} (ho : off = pOff t) (ho' : off' = pOff (sh c (4 - t)))
    {hsc : (show Memref sig (Dev.tc n : Thread nD τ).2.kind .vmem S256x768 .f32 from rV off inb).view.ref.isScScratch = false}
    {hsrc : (pV off' inb').view.WordExact} {hdst : (rV off inb).view.WordExact}
    {hsem : DmaTarget.Typed .vmem (.dma q₂) (.remote (Dev.tc n : Thread nD τ) (rV off inb) (.dma q₁) hsc)} (l : List Due)
    {α : Type} {Q : α → sProp 𝕄} {k : PUnit → Prog (TpuEff nD τ sig (Elt F) Λ₀ .tc) α} :
    iprop(recs m P ∗ owing c ((sh c 1, 25 + t) :: l) ∗ tok c (22 + t) 0 ∗ tok (sh c 1) (25 + t) 0 ∗ pS c (sh c (4 - t)) (Acc P c) ∗ (∃ f, rS (sh c 1) t f))
      ⊢ iprop(((owing c l ∗ crd c (22 + t)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (pV off' inb') (.remote (Dev.tc n : Thread nD τ) (rV off inb) (.dma q₁) hsc) (.dma q₂) hsrc hdst hsem) k) Q) := by
  subst ho ho'
  have ht : t.val < 3 := t.isLt
  have ha₁ : amt (22 + t) = NR := by unfold amt; rw [if_neg (by omega), if_neg (by omega)]
  have ha₂ : amt (25 + t) = NR := by unfold amt; rw [if_neg (by omega), if_neg (by omega)]
  iintro ⟨#HR, HO, Ht₁, Ht₂, Ha, ⟨%f, Hk⟩⟩
  iapply (st_send m P c n (sh c 1) hn (22 + t) (25 + t) hq₁ hq₂ (by omega) (by omega) (by fin_cases t <;> decide) (by fin_cases t <;> decide)
    (ha₁.trans ha₂.symm) (src := pV (pOff (sh c (4 - t))) inb') (dst := rV (pOff t) inb) ((rV_amt _ _).trans ha₂.symm) (Acc P c) f
    (by rw [pV_set, pay_rsend m P c t])
    (by
      rw [landed (rV (pOff t) inb).view (sh c 1) f (RS P (sh c 1)) (View.read (Elt F) (pV (pOff (sh c (4 - t))) inb').view (Acc P c)) (fun x =>
        (slot_emb (RS P (sh c 1)) t inb _).trans (Eq.trans (by
          unfold RS; rw [slotOf_ofSlots, sh_back c 1 (by decide), Acc_slot P c t (by omega)]) (slot_emb (Acc P c) (sh c (4 - t)) inb' _).symm)), rV_set, pay_rrecv m P _ t]) l) $$ [HO Ht₁ Ht₂ Ha Hk]
  rw [rV_set, pV_set]
  isplitr; · iexact HR
  isplitl [HO]; · iexact HO
  isplitl [Ht₁]; · iexact Ht₁
  isplitl [Ht₂]; · iexact Ht₂
  isplitl [Ha]; · iexact Ha
  iexact Hk

/-- A slot of the sum goes to the next device. -/
theorem send_G (c n : Dev nD) (t : Fin 3) (hn : n = sh c 1) {q₁ q₂ : DmaSem sig} (hq₁ : q₁.val = 28 + t) (hq₂ : q₂.val = 31 + t)
    {off off'} {inb inb'} (ho : off = pOff (sh c (5 - t))) (ho' : off' = pOff (sh c (5 - t)))
    {hsc : (show Memref sig (Dev.tc n : Thread nD τ).2.kind .vmem S256x768 .f32 from oV off inb).view.ref.isScScratch = false}
    {hsrc : (oV off' inb').view.WordExact} {hdst : (oV off inb).view.WordExact}
    {hsem : DmaTarget.Typed .vmem (.dma q₂) (.remote (Dev.tc n : Thread nD τ) (oV off inb) (.dma q₁) hsc)} (l : List Due)
    {α : Type} {Q : α → sProp 𝕄} {k : PUnit → Prog (TpuEff nD τ sig (Elt F) Λ₀ .tc) α} :
    iprop(recs m P ∗ owing c ((sh c 1, 31 + t) :: l) ∗ tok c (28 + t) 0 ∗ tok (sh c 1) (31 + t) 0 ∗ oS c (sh c (5 - t)) (Of P) ∗ (∃ f, oS (sh c 1) (sh c (5 - t)) f))
      ⊢ iprop(((owing c l ∗ crd c (28 + t)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (oV off' inb') (.remote (Dev.tc n : Thread nD τ) (oV off inb) (.dma q₁) hsc) (.dma q₂) hsrc hdst hsem) k) Q) := by
  subst ho ho'
  have ht : t.val < 3 := t.isLt
  have ha₁ : amt (28 + t) = NR := by unfold amt; rw [if_neg (by omega), if_neg (by omega)]
  have ha₂ : amt (31 + t) = NR := by unfold amt; rw [if_neg (by omega), if_neg (by omega)]
  have hs : sh (sh c 1) (4 - t) = sh c (5 - t) := by rw [sh_sh]; congr 1; omega
  iintro ⟨#HR, HO, Ht₁, Ht₂, Ha, ⟨%f, Hk⟩⟩
  iapply (st_send m P c n (sh c 1) hn (28 + t) (31 + t) hq₁ hq₂ (by omega) (by omega) (by fin_cases t <;> decide) (by fin_cases t <;> decide)
    (ha₁.trans ha₂.symm) (src := oV (pOff (sh c (5 - t))) inb') (dst := oV (pOff (sh c (5 - t))) inb) ((oV_amt _ _).trans ha₂.symm) (Of P) f
    (by rw [oV_set, pay_gsend m P c t])
    (by
      rw [landed (oV (pOff (sh c (5 - t))) inb).view (sh c 1) f (Of P) (View.read (Elt F) (oV (pOff (sh c (5 - t))) inb').view (Of P)) (fun x => rfl), oV_set, pay_grecv m P _ t, hs]) l) $$ [HO Ht₁ Ht₂ Ha Hk]
  rw [oV_set]
  isplitr; · iexact HR
  isplitl [HO]; · iexact HO
  isplitl [Ht₁]; · iexact Ht₁
  isplitl [Ht₂]; · iexact Ht₂
  isplitl [Ha]; · iexact Ha
  iexact Hk

end Moves

end Cert.KernelIdealProof

end
-- ==== Proof.Vals.lean ====
/-
# `Vals`: what a device computes between the transfers

The queries, the attention of each head, the partial product with the output weights and the result, as functions of the
buffers they are computed from; and the rule for a store that fills a part of a buffer with its share of such a function.
-/
module

public import proofs.«01_k».proof.Proof.Moves

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Blocks of the buffers -/

/-- What a rectangle of a buffer holds. -/
abbrev blk {s : Shape} (f : s.Idx → Elt F .f32) (r : Rect s) : Vec F r.shape .f32 := fun x => f (r.emb x)

theorem xInb (b : Fin 2) : ∀ a, (![b.val, 0, 0] : Fin 3 → ℕ) a + S1x512x768.size a ≤ S2x512x768.size a := by revert b; decide +kernel
theorem qInb (b : Fin 2) : ∀ a, (![b.val, 0, 0] : Fin 3 → ℕ) a + S1x512x512.size a ≤ S2x512x512.size a := by revert b; decide +kernel
theorem cInb (b : Fin 2) (h : Fin 8) : ∀ a, (![b.val, 0, 64 * h.val] : Fin 3 → ℕ) a + S1x512x64.size a ≤ S2x512x512.size a := by revert b h; decide +kernel
theorem eInb (b : Fin 2) (h : Fin 8) : ∀ a, (![b.val, 0, h.val, 0] : Fin 4 → ℕ) a + S1x2048x1x64.size a ≤ S2x2048x8x64.size a := by revert b h; decide +kernel
theorem oInb (b s : Fin 2) : ∀ a, (![b.val, 256 * s.val, 0] : Fin 3 → ℕ) a + S1x256x768.size a ≤ S2x512x768.size a := by revert b s; decide +kernel
theorem wInb : ∀ a, (![0, 0] : Fin 2 → ℕ) a + S768x512.size a ≤ S768x512.size a := by decide +kernel
theorem wInb' : ∀ a, (![0, 0] : Fin 2 → ℕ) a + S512x768.size a ≤ S512x768.size a := by decide +kernel

/-- Entry `b` of the input, of the queries and of the attention's result; head `h` of them; a head of the keys (values);
    256 rows of the result; and the two weights, whole. -/
abbrev xR (b : Fin 2) : Rect S2x512x768 := Rect.unit (s := S2x512x768) ![b.val, 0, 0] S1x512x768.size (xInb b)
abbrev qR (b : Fin 2) : Rect S2x512x512 := Rect.unit (s := S2x512x512) ![b.val, 0, 0] S1x512x512.size (qInb b)
abbrev cR (b : Fin 2) (h : Fin 8) : Rect S2x512x512 := Rect.unit (s := S2x512x512) ![b.val, 0, 64 * h.val] S1x512x64.size (cInb b h)
abbrev eR (b : Fin 2) (h : Fin 8) : Rect S2x2048x8x64 := Rect.unit (s := S2x2048x8x64) ![b.val, 0, h.val, 0] S1x2048x1x64.size (eInb b h)
abbrev outR (b s : Fin 2) : Rect S2x512x768 := Rect.unit (s := S2x512x768) ![b.val, 256 * s.val, 0] S1x256x768.size (oInb b s)
abbrev wR : Rect S768x512 := Rect.unit (s := S768x512) ![0, 0] S768x512.size wInb
abbrev wR' : Rect S512x768 := Rect.unit (s := S512x768) ![0, 0] S512x768.size wInb'

/-- The buffers of the computation. -/
abbrev mX : Memref sig .tc .vmem S2x512x768 .f32 := Memref.whole cc0_stg0_0
abbrev mW : Memref sig .tc .vmem S768x512 .f32 := Memref.whole cc0_stg1_0
abbrev mW' : Memref sig .tc .vmem S512x768 .f32 := Memref.whole cc0_stg2_0
abbrev mO : Memref sig .tc .vmem S2x512x768 .f32 := Memref.whole cc0_stg3_0
abbrev mK : Memref sig .tc .vmem S2x2048x8x64 .f32 := Memref.whole cc0_scratch0
abbrev mV : Memref sig .tc .vmem S2x2048x8x64 .f32 := Memref.whole cc0_scratch1
abbrev mQ : Memref sig .tc .vmem S2x512x512 .f32 := Memref.whole cc0_scratch2
abbrev mC : Memref sig .tc .vmem S2x512x512 .f32 := Memref.whole cc0_scratch3
abbrev mP : Memref sig .tc .vmem S4x256x768 .f32 := Memref.whole cc0_scratch4
abbrev mR : Memref sig .tc .vmem S3x256x768 .f32 := Memref.whole cc0_scratch5
abbrev mS : Memref sig .tc .vmem S4x256x768 .f32 := Memref.whole cc0_scratch6

/-! ## The functions -/

/-- Which positions attend to which. -/
def msk : IVec S512x2048 1 := k0_pay9 k0_pay7 (k0_pay8 k0_pay4 k0_pay5 k0_pay6) 4#32 (Scalar.cmpi .eq 4#32 0#32) 1#32

/-- The queries: the input times the weights. -/
def Qof (x : S2x512x768.Idx → Elt F .f32) (w : S768x512.Idx → Elt F .f32) : S2x512x512.Idx → Elt F .f32 := fun i =>
  k0_pay2 (blk x (xR ⟨(i 0).val, (i 0).isLt⟩)) (blk w wR) fun
    | 0 => ⟨0, by decide⟩
    | 1 => ⟨(i 1).val, (i 1).isLt⟩
    | 2 => ⟨(i 2).val, (i 2).isLt⟩

/-- The attention, head by head. -/
def Cof (q : S2x512x512.Idx → Elt F .f32) (k v : S2x2048x8x64.Idx → Elt F .f32) : S2x512x512.Idx → Elt F .f32 := fun i =>
  k0_pay12 msk (blk q (cR ⟨(i 0).val, (i 0).isLt⟩ ⟨(i 2).val / 64, Nat.div_lt_of_lt_mul (i 2).isLt⟩))
    (blk k (eR ⟨(i 0).val, (i 0).isLt⟩ ⟨(i 2).val / 64, Nat.div_lt_of_lt_mul (i 2).isLt⟩))
    (blk v (eR ⟨(i 0).val, (i 0).isLt⟩ ⟨(i 2).val / 64, Nat.div_lt_of_lt_mul (i 2).isLt⟩)) fun
    | 0 => ⟨0, by decide⟩
    | 1 => ⟨(i 1).val, (i 1).isLt⟩
    | 2 => ⟨(i 2).val % 64, Nat.mod_lt _ (by decide)⟩

/-- A device's partial product with the output weights, in slots of 256 rows. -/
def Pof (a : S2x512x512.Idx → Elt F .f32) (w : S512x768.Idx → Elt F .f32) : S4x256x768.Idx → Elt F .f32 := ofSlots fun
  | 0 => k0_pay47 (blk a (qR 0)) (blk w wR')
  | 1 => k0_pay48 (blk a (qR 0)) (blk w wR')
  | 2 => k0_pay51 (k0_pay50 (blk a (qR 1)) (blk w wR'))
  | 3 => k0_pay52 (k0_pay49 (blk a (qR 1)) (blk w wR'))

/-- The slots put back together. -/
def Oof (o : S4x256x768.Idx → Elt F .f32) : S2x512x768.Idx → Elt F .f32 := fun i => o fun
  | 0 => ⟨2 * (i 0).val + (i 1).val / 256, by have h0 : (i 0).val < 2 := (i 0).isLt; have h1 : (i 1).val < 512 := (i 1).isLt; show _ < 4; omega⟩
  | 1 => ⟨(i 1).val % 256, Nat.mod_lt _ (by decide)⟩
  | 2 => ⟨(i 2).val, (i 2).isLt⟩

theorem Qof_emb (x : S2x512x768.Idx → Elt F .f32) (w : S768x512.Idx → Elt F .f32) (b : Fin 2) (y : S1x512x512.Idx) :
    Qof x w ((qR b).emb y) = k0_pay2 (blk x (xR b)) (blk w wR) y := by
  have h0 : (y 0).val < 1 := (y 0).isLt
  unfold Qof
  have e : (⟨((qR b).emb y 0).val, ((qR b).emb y 0).isLt⟩ : Fin 2) = b := Fin.ext (by show b.val + 1 * (y 0).val = b.val; omega)
  rw [e]
  congr 1
  funext a
  match a with
  | 0 => exact Fin.ext (by show 0 = (y 0).val; omega)
  | 1 => exact Fin.ext (by show 0 + 1 * (y 1).val = (y 1).val; omega)
  | 2 => exact Fin.ext (by show 0 + 1 * (y 2).val = (y 2).val; omega)

theorem Cof_emb (q : S2x512x512.Idx → Elt F .f32) (k v : S2x2048x8x64.Idx → Elt F .f32) (b : Fin 2) (h : Fin 8) (y : S1x512x64.Idx) :
    Cof q k v ((cR b h).emb y) = k0_pay12 msk (blk q (cR b h)) (blk k (eR b h)) (blk v (eR b h)) y := by
  have h0 : (y 0).val < 1 := (y 0).isLt
  have h2 : (y 2).val < 64 := (y 2).isLt
  unfold Cof
  have e : (⟨((cR b h).emb y 0).val, ((cR b h).emb y 0).isLt⟩ : Fin 2) = b := Fin.ext (by show b.val + 1 * (y 0).val = b.val; omega)
  have e' : (⟨((cR b h).emb y 2).val / 64, Nat.div_lt_of_lt_mul ((cR b h).emb y 2).isLt⟩ : Fin 8) = h :=
    Fin.ext (by show (64 * h.val + 1 * (y 2).val) / 64 = h.val; omega)
  rw [e, e']
  congr 1
  funext a
  match a with
  | 0 => exact Fin.ext (by show 0 = (y 0).val; omega)
  | 1 => exact Fin.ext (by show 0 + 1 * (y 1).val = (y 1).val; omega)
  | 2 => exact Fin.ext (by show (64 * h.val + 1 * (y 2).val) % 64 = (y 2).val; omega)

theorem Oof_emb (o : S4x256x768.Idx → Elt F .f32) (b s : Fin 2) (j : Fin 4) (hj : j.val = 2 * b.val + s.val) (y : S1x256x768.Idx) :
    Oof o ((outR b s).emb y) = slotOf o j y := by
  have h0 : (y 0).val < 1 := (y 0).isLt
  have h1 : (y 1).val < 256 := (y 1).isLt
  unfold Oof slotOf
  congr 1
  funext a
  match a with
  | 0 => exact Fin.ext (by show 2 * (b.val + 1 * (y 0).val) + (256 * s.val + 1 * (y 1).val) / 256 = j.val; omega)
  | 1 => exact Fin.ext (by show (256 * s.val + 1 * (y 1).val) % 256 = (y 1).val; omega)
  | 2 => exact Fin.ext (by show 0 + 1 * (y 2).val = (y 2).val; omega)

/-! ## Filling a buffer piece by piece -/

section Fill
variable {cs : CoreSpace} {s : Shape} {e : EltTy}

/-- Device `c` holds a buffer whole, with contents `f`. -/
def own (c : Dev nD) (mr : Memref sig .tc cs s e) (f : Buf (Elt F) (mr.view.loc (c : Thread nD τ))) : sProp 𝕄 :=
  mr.view.loc (c : Thread nD τ) ↦{fullShare} f

/-- Device `c` holds a buffer whole, and it agrees with `C` wherever `p` says. -/
def fl (c : Dev nD) (mr : Memref sig .tc cs s e) (C : Buf (Elt F) (mr.view.loc (c : Thread nD τ))) (p : Idx (mr.view.loc (c : Thread nD τ)) → Prop) : sProp 𝕄 :=
  iprop(∃ f, ⌜∀ i, p i → f i = C i⌝ ∗ own c mr f)

theorem fl_start (c : Dev nD) (mr : Memref sig .tc cs s e) (C : Buf (Elt F) (mr.view.loc (c : Thread nD τ))) (p : Idx (mr.view.loc (c : Thread nD τ)) → Prop) (h : ∀ i, ¬ p i) :
    iprop(∃ f, own c mr f) ⊢ fl c mr C p := by
  unfold fl
  iintro ⟨%f, H⟩
  iexists f
  isplitr
  · ipureintro; exact fun i hi => absurd hi (h i)
  iexact H

theorem fl_done (c : Dev nD) (mr : Memref sig .tc cs s e) (C : Buf (Elt F) (mr.view.loc (c : Thread nD τ))) (p : Idx (mr.view.loc (c : Thread nD τ)) → Prop) (h : ∀ i, p i) :
    fl c mr C p ⊢ own c mr C := by
  unfold fl
  iintro ⟨%f, %hf, H⟩
  have e : f = C := funext fun i => hf i (h i)
  subst e
  iexact H

/-- A load from a buffer held whole. -/
theorem st_load (c : Dev nD) (mr : Memref sig .tc cs s e) {r : Rect s} {hl : mr.view.LoadsAt r}
    (f : Buf (Elt F) (mr.view.loc (c : Thread nD τ)))
    {α : Type} {Q : α → sProp 𝕄} {k : (r.shape.Idx → Elt F e) → Prog (TpuEff nD τ sig (Elt F) Λ₀ .tc) α} :
    own c mr f
      ⊢ iprop((own c mr f -∗ wp frame (wpE (defs₀ (F := F)) 𝒱₀ (c : Thread nD τ) none) Set.univ (k (mr.view.readAt (Elt F) r.toLoadRect f)) Q)
        -∗ wp frame (wpE (defs₀ (F := F)) 𝒱₀ (c : Thread nD τ) none) Set.univ (.op (.load mr r.toLoadRect hl) k) Q) :=
  wp_load 𝒱₀ (c : Thread nD τ) none Set.univ (Finset.subset_univ _)

/-- A load whose value is not used. -/
theorem fl_load (c : Dev nD) (mr : Memref sig .tc cs s e) {r : Rect s} {hl : mr.view.LoadsAt r}
    (C : Buf (Elt F) (mr.view.loc (c : Thread nD τ))) (p : Idx (mr.view.loc (c : Thread nD τ)) → Prop)
    {α : Type} {Q : α → sProp 𝕄} {k : Prog (TpuEff nD τ sig (Elt F) Λ₀ .tc) α} :
    fl c mr C p
      ⊢ iprop((fl c mr C p -∗ wp frame (wpE (defs₀ (F := F)) 𝒱₀ (c : Thread nD τ) none) Set.univ k Q)
        -∗ wp frame (wpE (defs₀ (F := F)) 𝒱₀ (c : Thread nD τ) none) Set.univ (.op (.load mr r.toLoadRect hl) fun _ => k) Q) := by
  unfold fl
  iintro ⟨%f, %hf, H⟩ Hk
  iapply (st_load c mr (r := r) f) $$ H
  iintro H
  iapply Hk
  iexists f
  isplitr
  · ipureintro; exact hf
  iexact H

/-- A store of a piece. -/
theorem fl_store (c : Dev nD) (mr : Memref sig .tc cs s e) {r : Rect s} {w : r.shape.Idx → Elt F e}
    {hx : (mr.access r).Stores Finset.univ} {hm : (Finset.univ : Finset r.shape.Idx) = Finset.univ ∨ ∀ a, r.stride a = 1}
    (C : Buf (Elt F) (mr.view.loc (c : Thread nD τ))) (p p' : Idx (mr.view.loc (c : Thread nD τ)) → Prop)
    (hp : ∀ i, p' i → p i ∨ i ∈ (mr.access r).set) (hw : ∀ x, (mr.access r).read (Elt F) C x = w x)
    {α : Type} {Q : α → sProp 𝕄} {k : PUnit → Prog (TpuEff nD τ sig (Elt F) Λ₀ .tc) α} :
    fl c mr C p
      ⊢ iprop((fl c mr C p' -∗ wp frame (wpE (defs₀ (F := F)) 𝒱₀ (c : Thread nD τ) none) Set.univ (k ⟨⟩) Q)
        -∗ wp frame (wpE (defs₀ (F := F)) 𝒱₀ (c : Thread nD τ) none) Set.univ (.op (.store mr r w Finset.univ hx hm) k) Q) := by
  unfold fl own
  iintro ⟨%f, %hf, H⟩ Hk
  iapply (wp_store 𝒱₀ (c : Thread nD τ) none Set.univ (m := mr) (r := r) (Mk := Finset.univ) (S := Finset.univ) (Finset.subset_univ _)) $$ H
  iintro H
  iapply Hk
  iexists ((mr.access r).write (Elt F) f w Finset.univ)
  isplitr
  · ipureintro
    intro i hi
    by_cases hs : i ∈ (mr.access r).set
    · obtain ⟨x, -, rfl⟩ := Finset.mem_map.mp hs
      have e : (mr.access r).read (Elt F) ((mr.access r).write (Elt F) f w Finset.univ) x = (mr.access r).read (Elt F) C x := by
        rw [View.read_write_univ, hw]
      rw [View.read_apply, View.read_apply] at e
      exact (cast_inj _).mp e
    · rw [View.write_of_not_mem _ _ _ hs]
      exact hf i ((hp i hi).resolve_right hs)
  iexact H

end Fill

end Cert.KernelIdealProof

end
-- ==== Proof.BodyA.lean ====
/-
# `BodyA`: the body up to the last arrival of keys and values

The barrier, the local copies, the six sends, the queries, and the waits for them.
-/
module

public import proofs.«01_k».proof.Proof.Vals

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body's arguments -/

/-- A function of the arguments every part of the body takes. -/
abbrev Args.{u} (β : Sort u) : Sort _ :=
  (arg0 : Memref sig .tc .vmem S2x512x768 .f32) → arg0.IsWhole → (arg1 : Memref sig .tc .vmem S768x512 .f32) → arg1.IsWhole →
  (arg2 : Memref sig .tc .hbm S2x512x32x64 .f32) → arg2.IsWhole → (arg3 : Memref sig .tc .hbm S2x512x32x64 .f32) → arg3.IsWhole →
  (arg4 : Memref sig .tc .vmem S512x768 .f32) → arg4.IsWhole → (arg5 : Memref sig .tc .vmem S2x512x768 .f32) → arg5.IsWhole →
  (arg6 : Memref sig .tc .vmem S2x2048x8x64 .f32) → arg6.IsWhole → (arg7 : Memref sig .tc .vmem S2x2048x8x64 .f32) → arg7.IsWhole →
  (arg8 : Memref sig .tc .vmem S2x512x512 .f32) → arg8.IsWhole → (arg9 : Memref sig .tc .vmem S2x512x512 .f32) → arg9.IsWhole →
  (arg10 : Memref sig .tc .vmem S4x256x768 .f32) → arg10.IsWhole → (arg11 : Memref sig .tc .vmem S3x256x768 .f32) → arg11.IsWhole →
  (arg12 : Memref sig .tc .vmem S4x256x768 .f32) → arg12.IsWhole →
  DmaSems sig S2 → DmaSems sig S4 → DmaSems sig S4 → DmaSems sig S4 → DmaSems sig S4 →
  DmaSems sig S3 → DmaSems sig S3 → DmaSems sig S3 → DmaSems sig S3 → β

/-- It, at the arguments the body is run with. -/
abbrev app.{u} {β : Sort u} (f : Args β) : β :=
  f (Memref.whole cc0_stg0_0) (Memref.isWhole_whole _) (Memref.whole cc0_stg1_0) (Memref.isWhole_whole _)
    (Memref.whole main_arg2) (Memref.isWhole_whole _) (Memref.whole main_arg3) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scratch11 cc0_scratch12 cc0_scratch13 cc0_scratch14 cc0_scratch15

/-- That device `c` runs a program to `Q`. -/
abbrev rn (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What goes with a transfer -/

/-- Before a transfer from `c` to `d` that completes on semaphores `n₁` and `n₂`, where a like transfer arrives at `c`. -/
def gh (c d : Dev nD) (n₁ n₂ : ℕ) : sProp 𝕄 := iprop(tok c n₁ 0 ∗ tok d n₂ 0 ∗ pos c n₁ ∗ pos c n₂ ∗ crd c n₂)
/-- While it is under way. -/
def gw (c : Dev nD) (n₁ n₂ : ℕ) : sProp 𝕄 := iprop((pos c n₁ ∗ crd c n₁) ∗ pos c n₂ ∗ crd c n₂)

section Parts
variable (m : (ℓ : Loc nD τ sig) → Buf (Elt F) ℓ) (P : Dev nD → S4x256x768.Idx → Elt F .f32)

theorem part1_ok (c : Dev nD) (l : List Due) {α : Type} {Q : α → sProp 𝕄}
    {K : (Σ' (d0 : Dev nD) (v2 : BitVec 32) (v13 : BitVec 32) (v14 : Sems sig S_) (v30 : BitVec 32) (v31 : BitVec 32) (v32 : BitVec 1), BitVec 32)
      → Prog (TpuEff nD τ sig (Elt F) Λ₀ .tc) α} :
    iprop(recs m P ∗ owing c ((sh c 1, 34) :: l) ∗ tok (sh c 1) 34 1 ∗ barPay (sh c 1) 1)
      ⊢ iprop((∀ v2 v13 v30 v31 v32 v, owing c l -∗ rn c (K ⟨c, v2, v13, SemArray.scalar (sig.barrier 0 rfl), v30, v31, v32, v⟩) Q)
        -∗ rn c (app (k0_part1 (F := F)) >>= K) Q) := by
  simp only [k0_part1_eq_skeleton]; unfold app rn k0_part1_skel
  simp only [semSignalWord, Prog.lift, Prog.bind_op, Prog.bind_ret, Prog.pure_eq_ret, wp_deviceId]
  iintro ⟨#HR, HO, Ht, Hb⟩ Hk
  iapply (st_signal m P c _ (sh c 1) (dev1_eq c) 1 (by decide) l) $$ [HO Ht Hb]
  · isplitr; · iexact HR
    isplitl [HO]; · iexact HO
    isplitl [Ht]; · iexact Ht
    iexact Hb
  iintro HO
  iapply Hk
  iexact HO

/-- What is owed once the barrier is past, and what is owed once the keys and values are under way. -/
abbrev ring (c : Dev nD) : List Due := [(sh c 1, 25), (sh c 1, 26), (sh c 1, 27), (sh c 1, 31), (sh c 1, 32), (sh c 1, 33)]
abbrev kvs (c : Dev nD) : List Due := (sh c 1, 11) :: (sh c 1, 19) :: (sh c 2, 12) :: (sh c 2, 20) :: (sh c 3, 13) :: (sh c 3, 21) :: ring c

theorem part2_ok (c : Dev nD) (v2 v30 v31 : BitVec 32) (v32 : BitVec 1) (v : BitVec 32) {α : Type} {Q : α → sProp 𝕄}
    {K : PUnit → Prog (TpuEff nD τ sig (Elt F) Λ₀ .tc) α} :
    iprop(recs m P ∗ owing c ((sh c 2, 34) :: (sh c 3, 34) :: kvs c) ∗ (tok (sh c 2) 34 2 ∗ barPay (sh c 2) 2) ∗ (tok (sh c 3) 34 3 ∗ barPay (sh c 3) 3)
        ∗ pos c 34 ∗ cred (tallyAt (cell c 34) () 3) ∗ tok c 4 0 ∗ aS c c (aK m c) ∗ (∃ f, kS c c f))
      ⊢ iprop(((owing c (kvs c) ∗ zer c 34 ∗ (barPay c 1 ∗ barPay c 2 ∗ barPay c 3) ∗ crd c 4) -∗ rn c (K ⟨⟩) Q)
        -∗ rn c (app (k0_part2 (F := F)) c v2 (SemArray.scalar (sig.barrier 0 rfl)) v30 v31 v32 v >>= K) Q) := by
  simp only [k0_part2_eq_skeleton]; unfold app rn k0_part2_skel
  simp only [semSignalWord, semWaitWord, Prog.lift, Prog.bind_op, Prog.bind_ret, Prog.pure_eq_ret, wp_deviceId]
  iintro ⟨#HR, HO, ⟨Ht2, Hb2⟩, ⟨Ht3, Hb3⟩, Hpos, Hcr, Htok, Ha, Hks⟩ Hk
  iapply (st_signal m P c _ (sh c 2) (dev2_eq c) 2 (by decide) ((sh c 3, 34) :: kvs c)) $$ [HO Ht2 Hb2]
  · isplitr; · iexact HR
    isplitl [HO]; · iexact HO
    isplitl [Ht2]; · iexact Ht2
    iexact Hb2
  iintro HO
  iapply (st_signal m P c _ (sh c 3) (dev3_eq c) 3 (by decide) (kvs c)) $$ [HO Ht3 Hb3]
  · isplitr; · iexact HR
    isplitl [HO]; · iexact HO
    isplitl [Ht3]; · iexact Ht3
    iexact Hb3
  iintro HO
  iapply (st_wait_bar m P c (kvs c) rfl) $$ [HO Hpos Hcr]
  · isplitr; · iexact HR
    isplitl [HO]; · iexact HO
    isplitl [Hpos]; · iexact Hpos
    iexact Hcr
  iintro ⟨HO, Hz, Hb⟩
  iapply (copy_K m P c rfl (off1_eq c) (off2_eq c)) $$ [Htok Ha Hks]
  · isplitr; · iexact HR
    isplitl [Htok]; · iexact Htok
    isplitl [Ha]; · iexact Ha
    iexact Hks
  iintro Hc
  iapply Hk
  isplitl [HO]; · iexact HO
  isplitl [Hz]; · iexact Hz
  isplitl [Hb]; · iexact Hb
  iexact Hc

/-- A send of keys, with all that goes with it. -/
theorem go_K (c n : Dev nD) (o : ℕ) (h : 1 ≤ o ∧ o ≤ 3) (hn : n = sh c o) {q₁ q₂ : DmaSem sig} (hq₁ : q₁.val = 6 + o) (hq₂ : q₂.val = 10 + o)
    {off off'} {inb inb'} (ho : off = kOff c) (ho' : off' = hOff (sh c o))
    {hsc : (show Memref sig (Dev.tc n : Thread nD τ).2.kind .vmem S2x512x8x64 .f32 from kV off inb).view.ref.isScScratch = false}
    {hsrc : (aV' off' inb').view.WordExact} {hdst : (kV off inb).view.WordExact}
    {hsem : DmaTarget.Typed .hbm (.dma q₂) (.remote (Dev.tc n : Thread nD τ) (kV off inb) (.dma q₁) hsc)} (l : List Due)
    {α : Type} {Q : α → sProp 𝕄} {k : PUnit → Prog (TpuEff nD τ sig (Elt F) Λ₀ .tc) α} :
    iprop(recs m P ∗ owing c ((sh c o, 10 + o) :: l) ∗ gh c (sh c o) (6 + o) (10 + o) ∗ aS c (sh c o) (aK m c) ∗ (∃ f, kS (sh c o) c f))
      ⊢ iprop(((owing c l ∗ gw c (6 + o) (10 + o)) -∗ rn c (k ⟨⟩) Q)
        -∗ rn c (.op (.enqueueDma (aV' off' inb') (.remote (Dev.tc n : Thread nD τ) (kV off inb) (.dma q₁) hsc) (.dma q₂) hsrc hdst hsem) k) Q) := by
  unfold gh gw rn
  iintro ⟨#HR, HO, ⟨Ht₁, Ht₂, Hp₁, Hp₂, Hc₂⟩, Ha, Hd⟩ Hk
  iapply (send_K m P c n o h hn hq₁ hq₂ ho ho' l) $$ [HO Ht₁ Ht₂ Ha Hd]
  · isplitr; · iexact HR
    isplitl [HO]; · iexact HO
    isplitl [Ht₁]; · iexact Ht₁
    isplitl [Ht₂]; · iexact Ht₂
    isplitl [Ha]; · iexact Ha
    iexact Hd
  iintro ⟨HO, Hc₁⟩
  iapply Hk
  isplitl [HO]; · iexact HO
  isplitl [Hp₁ Hc₁]
  · isplitl [Hp₁]; · iexact Hp₁
    iexact Hc₁
  isplitl [Hp₂]; · iexact Hp₂
  iexact Hc₂

/-- A send of values, with all that goes with it. -/
theorem go_V (c n : Dev nD) (o : ℕ) (h : 1 ≤ o ∧ o ≤ 3) (hn : n = sh c o) {q₁ q₂ : DmaSem sig} (hq₁ : q₁.val = 14 + o) (hq₂ : q₂.val = 18 + o)
    {off off'} {inb inb'} (ho : off = kOff c) (ho' : off' = hOff (sh c o))
    {hsc : (show Memref sig (Dev.tc n : Thread nD τ).2.kind .vmem S2x512x8x64 .f32 from vV off inb).view.ref.isScScratch = false}
    {hsrc : (bV' off' inb').view.WordExact} {hdst : (vV off inb).view.WordExact}
    {hsem : DmaTarget.Typed .hbm (.dma q₂) (.remote (Dev.tc n : Thread nD τ) (vV off inb) (.dma q₁) hsc)} (l : List Due)
    {α : Type} {Q : α → sProp 𝕄} {k : PUnit → Prog (TpuEff nD τ sig (Elt F) Λ₀ .tc) α} :
    iprop(recs m P ∗ owing c ((sh c o, 18 + o) :: l) ∗ gh c (sh c o) (14 + o) (18 + o) ∗ bS c (sh c o) (aV m c) ∗ (∃ f, vS (sh c o) c f))
      ⊢ iprop(((owing c l ∗ gw c (14 + o) (18 + o)) -∗ rn c (k ⟨⟩) Q)
        -∗ rn c (.op (.enqueueDma (bV' off' inb') (.remote (Dev.tc n : Thread nD τ) (vV off inb) (.dma q₁) hsc) (.dma q₂) hsrc hdst hsem) k) Q) := by
  unfold gh gw rn
  iintro ⟨#HR, HO, ⟨Ht₁, Ht₂, Hp₁, Hp₂, Hc₂⟩, Ha, Hd⟩ Hk
  iapply (send_V m P c n o h hn hq₁ hq₂ ho ho' l) $$ [HO Ht₁ Ht₂ Ha Hd]
  · isplitr; · iexact HR
    isplitl [HO]; · iexact HO
    isplitl [Ht₁]; · iexact Ht₁
    isplitl [Ht₂]; · iexact Ht₂
    isplitl [Ha]; · iexact Ha
    iexact Hd
  iintro ⟨HO, Hc₁⟩
  iapply Hk
  isplitl [HO]; · iexact HO
  isplitl [Hp₁ Hc₁]
  · isplitl [Hp₁]; · iexact Hp₁
    iexact Hc₁
  isplitl [Hp₂]; · iexact Hp₂
  iexact Hc₂

/-- What a send to the device `o` places on takes: what goes with it, the slot it reads and the slot it writes. -/
abbrev kGo (c : Dev nD) (o : ℕ) : sProp 𝕄 := iprop(gh c (sh c o) (6 + o) (10 + o) ∗ aS c (sh c o) (aK m c) ∗ (∃ f, kS (sh c o) c f))
abbrev vGo (c : Dev nD) (o : ℕ) : sProp 𝕄 := iprop(gh c (sh c o) (14 + o) (18 + o) ∗ bS c (sh c o) (aV m c) ∗ (∃ f, vS (sh c o) c f))

theorem part3_ok (c : Dev nD) (v2 : BitVec 32) (l : List Due) {α : Type} {Q : α → sProp 𝕄}
    {K : (Σ' (v76 : BitVec 32), BitVec 32) → Prog (TpuEff nD τ sig (Elt F) Λ₀ .tc) α} :
    iprop(recs m P ∗ owing c ((sh c 1, 11) :: l) ∗ (tok c 5 0 ∗ bS c c (aV m c) ∗ (∃ f, vS c c f)) ∗ kGo m c 1)
      ⊢ iprop((∀ v w, (owing c l ∗ crd c 5 ∗ gw c 7 11) -∗ rn c (K ⟨v, w⟩) Q)
        -∗ rn c (app (k0_part3 (F := F)) c v2 >>= K) Q) := by
  simp only [k0_part3_eq_skeleton]; unfold app rn k0_part3_skel
  simp only [Prog.lift, Prog.bind_op, Prog.bind_ret, Prog.pure_eq_ret]
  iintro ⟨#HR, HO, Hv, Hg⟩ Hk
  iapply (copy_V m P c rfl (off1_eq c) (off2_eq c)) $$ [Hv]
  · isplitr; · iexact HR
    iexact Hv
  iintro Hc
  iapply (go_K m P c _ 1 (by decide) (dev4_eq c) rfl rfl (off1_eq c) (off3_eq1 c) l) $$ [HO Hg]
  · isplitr; · iexact HR
    isplitl [HO]; · iexact HO
    iexact Hg
  iintro ⟨HO, Hw⟩
  iapply Hk
  isplitl [HO]; · iexact HO
  isplitl [Hc]; · iexact Hc
  iexact Hw

theorem part4_ok (c : Dev nD) (v2 v76 v : BitVec 32) (l : List Due) {α : Type} {Q : α → sProp 𝕄}
    {K : (Σ' (v107 : BitVec 32), BitVec 32) → Prog (TpuEff nD τ sig (Elt F) Λ₀ .tc) α} :
    iprop(recs m P ∗ owing c ((sh c 1, 19) :: (sh c 2, 12) :: l) ∗ vGo m c 1 ∗ kGo m c 2)
      ⊢ iprop((∀ v w, (owing c l ∗ gw c 15 19 ∗ gw c 8 12) -∗ rn c (K ⟨v, w⟩) Q)
        -∗ rn c (app (k0_part4 (F := F)) c v2 v76 v >>= K) Q) := by
  simp only [k0_part4_eq_skeleton]; unfold app rn k0_part4_skel
  simp only [Prog.lift, Prog.bind_op, Prog.bind_ret, Prog.pure_eq_ret]
  iintro ⟨#HR, HO, Hv, Hg⟩ Hk
  iapply (go_V m P c _ 1 (by decide) (dev5_eq c) rfl rfl (off1_eq c) (off3_eq1 c) ((sh c 2, 12) :: l)) $$ [HO Hv]
  · isplitr; · iexact HR
    isplitl [HO]; · iexact HO
    iexact Hv
  iintro ⟨HO, Hw⟩
  iapply (go_K m P c _ 2 (by decide) (dev6_eq c) rfl rfl (off1_eq c) (off3_eq2 c) l) $$ [HO Hg]
  · isplitr; · iexact HR
    isplitl [HO]; · iexact HO
    iexact Hg
  iintro ⟨HO, Hw'⟩
  iapply Hk
  isplitl [HO]; · iexact HO
  isplitl [Hw]; · iexact Hw
  iexact Hw'

theorem part5_ok (c : Dev nD) (v2 v107 v : BitVec 32) (l : List Due) {α : Type} {Q : α → sProp 𝕄}
    {K : BitVec 32 → Prog (TpuEff nD τ sig (Elt F) Λ₀ .tc) α} :
    iprop(recs m P ∗ owing c ((sh c 2, 20) :: l) ∗ vGo m c 2)
      ⊢ iprop((∀ v, (owing c l ∗ gw c 16 20) -∗ rn c (K v) Q)
        -∗ rn c (app (k0_part5 (F := F)) c v2 v107 v >>= K) Q) := by
  simp only [k0_part5_eq_skeleton]; unfold app rn k0_part5_skel
  simp only [Prog.lift, Prog.bind_op, Prog.bind_ret, Prog.pure_eq_ret]
  iintro ⟨#HR, HO, Hv⟩ Hk
  iapply (go_V m P c _ 2 (by decide) (dev7_eq c) rfl rfl (off1_eq c) (off3_eq2 c) l) $$ [HO Hv]
  · isplitr; · iexact HR
    isplitl [HO]; · iexact HO
    iexact Hv
  iintro ⟨HO, Hw⟩
  iapply Hk
  isplitl [HO]; · iexact HO
  iexact Hw

/-! ## The queries -/

/-- Entries of the queries, the first axis below `n`. -/
abbrev qUp (n : ℕ) : S2x512x512.Idx → Prop := fun i => (i 0).val < n

/-- Storing one entry of the queries. -/
theorem q_store (c : Dev nD) (x : S2x512x768.Idx → Elt F .f32) (w : S768x512.Idx → Elt F .f32) (b : Fin 2) (n n' : ℕ) (hn : n = b.val) (hn' : n' = b.val + 1) {off : Fin 3 → ℕ} {inb}
    (ho : off = ![b.val, 0, 0]) {u : Vec F S1x512x512 .f32} (hu : k0_pay2 (blk x (xR b)) (blk w wR) = u)
    {hx : (mQ.access (Rect.unit (s := S2x512x512) off S1x512x512.size inb)).Stores Finset.univ}
    {hm : (Finset.univ : Finset S1x512x512.Idx) = Finset.univ ∨ ∀ a, (Rect.unit (s := S2x512x512) off S1x512x512.size inb).stride a = 1}
    {α : Type} {Q : α → sProp 𝕄} {k : PUnit → Prog (TpuEff nD τ sig (Elt F) Λ₀ .tc) α} :
    (fl c mQ (Qof x w) (qUp n) : sProp 𝕄)
      ⊢ iprop((fl c mQ (Qof x w) (qUp n') -∗ rn c (k ⟨⟩) Q)
        -∗ rn c (.op (.store mQ (Rect.unit (s := S2x512x512) off S1x512x512.size inb) u Finset.univ hx hm) k) Q) := by
  subst ho hn hn'
  refine fl_store c mQ (r := qR b) (Qof x w) (qUp b.val) (qUp (b.val + 1)) (fun i hi => ?_) (fun y => ?_)
  · have h1 : (i 1).val < 512 := (i 1).isLt
    have h2 : (i 2).val < 512 := (i 2).isLt
    have hi' : (i 0).val < b.val + 1 := hi
    rcases Nat.lt_or_ge (i 0).val b.val with h | h
    · exact Or.inl h
    · refine Or.inr ?_
      rw [show (mQ.access (qR b)).set = (qR b).set from View.set_slice_whole .., Rect.mem_set_unit]
      intro a
      match a with
      | 0 => exact ⟨h, hi'⟩
      | 1 => exact ⟨Nat.zero_le _, (show (i 1).val < 0 + 512 by omega)⟩
      | 2 => exact ⟨Nat.zero_le _, (show (i 2).val < 0 + 512 by omega)⟩
  · rw [← hu]; exact Qof_emb x w b y

theorem part6_ok (c : Dev nD) (x : S2x512x768.Idx → Elt F .f32) (w : S768x512.Idx → Elt F .f32) (v2 v138 : BitVec 32) (l : List Due) {α : Type} {Q : α → sProp 𝕄}
    {K : PUnit → Prog (TpuEff nD τ sig (Elt F) Λ₀ .tc) α} :
    iprop(recs m P ∗ owing c ((sh c 3, 13) :: (sh c 3, 21) :: l) ∗ kGo m c 3 ∗ vGo m c 3
        ∗ own c mX x ∗ own c mW w ∗ fl c mQ (Qof x w) (qUp 0))
      ⊢ iprop(((owing c l ∗ gw c 9 13 ∗ gw c 17 21
          ∗ own c mX x ∗ own c mW w ∗ fl c mQ (Qof x w) (qUp 2)) -∗ rn c (K ⟨⟩) Q)
        -∗ rn c (app (k0_part6 (F := F)) c v2 v138 >>= K) Q) := by
  simp only [k0_part6_eq_skeleton]; unfold app rn k0_part6_skel
  simp only [Prog.lift, Prog.bind_op, Prog.bind_ret, Prog.pure_eq_ret]
  iintro ⟨#HR, HO, Hg, Hv, Hx, Hw, Hq⟩ Hk
  iapply (go_K m P c _ 3 (by decide) (dev8_eq c) rfl rfl (off1_eq c) (off3_eq3 c) ((sh c 3, 21) :: l)) $$ [HO Hg]
  · isplitr; · iexact HR
    isplitl [HO]; · iexact HO
    iexact Hg
  iintro ⟨HO, Hg⟩
  iapply (go_V m P c _ 3 (by decide) (dev9_eq c) rfl rfl (off1_eq c) (off3_eq3 c) l) $$ [HO Hv]
  · isplitr; · iexact HR
    isplitl [HO]; · iexact HO
    iexact Hv
  iintro ⟨HO, Hv⟩
  iapply (st_load c mX x) $$ Hx; iintro Hx
  iapply (st_load c mW w) $$ Hw; iintro Hw
  iapply (fl_load c mQ (Qof x w) (qUp 0)) $$ Hq; iintro Hq
  iapply (q_store c x w 0 0 1 rfl rfl rfl rfl) $$ Hq; iintro Hq
  iapply (st_load c mX x) $$ Hx; iintro Hx
  iapply (st_load c mW w) $$ Hw; iintro Hw
  iapply (fl_load c mQ (Qof x w) (qUp 1)) $$ Hq; iintro Hq
  iapply (q_store c x w 1 1 2 rfl rfl rfl rfl) $$ Hq; iintro Hq
  iapply Hk
  isplitl [HO]; · iexact HO
  isplitl [Hg]; · iexact Hg
  isplitl [Hv]; · iexact Hv
  isplitl [Hx]; · iexact Hx
  isplitl [Hw]; · iexact Hw
  iexact Hq

end Parts

end Cert.KernelIdealProof

end
-- ==== Proof.BodyB.lean ====
/-
# `BodyB`: the waits for the keys and values

After them every device holds the keys and values of its heads, whole, and its own arguments back.
-/
module

public import proofs.«01_k».proof.Proof.BodyA

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (m : (ℓ : Loc nD τ sig) → Buf (Elt F) ℓ) (P : Dev nD → S4x256x768.Idx → Elt F .f32)

theorem amtK (n : ℕ) (h : n < 22) : NK = amt n := by unfold amt; rw [if_neg (by omega), if_pos h]
theorem amtR (n : ℕ) (h : n < 34) (h' : 22 ≤ n) : NR = amt n := by unfold amt; rw [if_neg (by omega), if_neg (by omega)]

/-- What is held of semaphore `n` once its transfer has completed: its counter at zero, and what it handed over. -/
abbrev got (c : Dev nD) (n : ℕ) : sProp 𝕄 := iprop(zer c n ∗ pay m P c n 0)

/-- The wait for a transfer of keys or values. -/
theorem wt (c : Dev nD) (n : ℕ) {q : DmaSem sig} (hq : q.val = n) (hn : 4 ≤ n ∧ n < 22) (hd : dut n = {0}) (hl : lvl n ≤ 2)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = NK)
    {α : Type} {Q : α → sProp 𝕄} {k : PUnit → Prog (TpuEff nD τ sig (Elt F) Λ₀ .tc) α} :
    iprop(recs m P ∗ owing c (ring c) ∗ pos c n ∗ crd c n)
      ⊢ iprop(((owing c (ring c) ∗ got m P c n) -∗ rn c (k ⟨⟩) Q) -∗ rn c (.op (.waitDma2 q src dst hsrc hdst) k) Q) :=
  st_wait m P c n hq hn.1 hd (hN.trans (amtK n hn.2)) (ring c) (by
    have h : ∀ k, k ≤ 2 → (((ring c).map Prod.snd).all fun x => decide (x ≤ 34 ∧ k < lvl x)) = true := fun k hk => by
      rcases (show k = 0 ∨ k = 1 ∨ k = 2 by omega) with rfl | rfl | rfl <;> rfl
    exact h _ hl)

theorem part7_ok (c : Dev nD) (v : BitVec 32) {α : Type} {Q : α → sProp 𝕄} {K : PUnit → Prog (TpuEff nD τ sig (Elt F) Λ₀ .tc) α} :
    iprop(recs m P ∗ owing c (ring c) ∗ (pos c 4 ∗ crd c 4) ∗ (pos c 5 ∗ crd c 5) ∗ gw c 7 11)
      ⊢ iprop(((owing c (ring c) ∗ got m P c 4 ∗ got m P c 5 ∗ got m P c 7 ∗ got m P c 11) -∗ rn c (K ⟨⟩) Q)
        -∗ rn c (app (k0_part7 (F := F)) c v >>= K) Q) := by
  simp only [k0_part7_eq_skeleton]; unfold app rn gw k0_part7_skel
  simp only [Prog.lift, Prog.bind_op, Prog.bind_ret, Prog.pure_eq_ret]
  iintro ⟨#HR, HO, H1, H2, H3, H4⟩ Hk
  iapply (wt m P c 4 rfl (by decide) rfl (by decide) (kV_amt _ _)) $$ [HO H1]
  · isplitr; · iexact HR
    isplitl [HO]; · iexact HO
    iexact H1
  iintro ⟨HO, H1⟩
  iapply (wt m P c 5 rfl (by decide) rfl (by decide) (vV_amt _ _)) $$ [HO H2]
  · isplitr; · iexact HR
    isplitl [HO]; · iexact HO
    iexact H2
  iintro ⟨HO, H2⟩
  iapply (wt m P c 7 rfl (by decide) rfl (by decide) (aV_amt _ _)) $$ [HO H3]
  · isplitr; · iexact HR
    isplitl [HO]; · iexact HO
    iexact H3
  iintro ⟨HO, H3⟩
  iapply (wt m P c 11 rfl (by decide) rfl (by decide) (kV_amt _ _)) $$ [HO H4]
  · isplitr; · iexact HR
    isplitl [HO]; · iexact HO
    iexact H4
  iintro ⟨HO, H4⟩
  iapply Hk
  isplitl [HO]; · iexact HO
  isplitl [H1]; · iexact H1
  isplitl [H2]; · iexact H2
  isplitl [H3]; · iexact H3
  iexact H4

theorem part8_ok (c : Dev nD) (v v' : BitVec 32) {α : Type} {Q : α → sProp 𝕄} {K : PUnit → Prog (TpuEff nD τ sig (Elt F) Λ₀ .tc) α} :
    iprop(recs m P ∗ owing c (ring c) ∗ gw c 15 19 ∗ gw c 8 12)
      ⊢ iprop(((owing c (ring c) ∗ got m P c 15 ∗ got m P c 19 ∗ got m P c 8 ∗ got m P c 12) -∗ rn c (K ⟨⟩) Q)
        -∗ rn c (app (k0_part8 (F := F)) c v v' >>= K) Q) := by
  simp only [k0_part8_eq_skeleton]; unfold app rn gw k0_part8_skel
  simp only [Prog.lift, Prog.bind_op, Prog.bind_ret, Prog.pure_eq_ret]
  iintro ⟨#HR, HO, ⟨H1, H2⟩, H3, H4⟩ Hk
  iapply (wt m P c 15 rfl (by decide) rfl (by decide) (bV_amt _ _)) $$ [HO H1]
  · isplitr; · iexact HR
    isplitl [HO]; · iexact HO
    iexact H1
  iintro ⟨HO, H1⟩
  iapply (wt m P c 19 rfl (by decide) rfl (by decide) (vV_amt _ _)) $$ [HO H2]
  · isplitr; · iexact HR
    isplitl [HO]; · iexact HO
    iexact H2
  iintro ⟨HO, H2⟩
  iapply (wt m P c 8 rfl (by decide) rfl (by decide) (aV_amt _ _)) $$ [HO H3]
  · isplitr; · iexact HR
    isplitl [HO]; · iexact HO
    iexact H3
  iintro ⟨HO, H3⟩
  iapply (wt m P c 12 rfl (by decide) rfl (by decide) (kV_amt _ _)) $$ [HO H4]
  · isplitr; · iexact HR
    isplitl [HO]; · iexact HO
    iexact H4
  iintro ⟨HO, H4⟩
  iapply Hk
  isplitl [HO]; · iexact HO
  isplitl [H1]; · iexact H1
  isplitl [H2]; · iexact H2
  isplitl [H3]; · iexact H3
  iexact H4

theorem part9_ok (c : Dev nD) (v v' : BitVec 32) {α : Type} {Q : α → sProp 𝕄} {K : PUnit → Prog (TpuEff nD τ sig (Elt F) Λ₀ .tc) α} :
    iprop(recs m P ∗ owing c (ring c) ∗ gw c 16 20 ∗ gw c 9 13)
      ⊢ iprop(((owing c (ring c) ∗ got m P c 16 ∗ got m P c 20 ∗ got m P c 9 ∗ got m P c 13) -∗ rn c (K ⟨⟩) Q)
        -∗ rn c (app (k0_part9 (F := F)) c v v' >>= K) Q) := by
  simp only [k0_part9_eq_skeleton]; unfold app rn gw k0_part9_skel
  simp only [Prog.lift, Prog.bind_op, Prog.bind_ret, Prog.pure_eq_ret]
  iintro ⟨#HR, HO, ⟨H1, H2⟩, H3, H4⟩ Hk
  iapply (wt m P c 16 rfl (by decide) rfl (by decide) (bV_amt _ _)) $$ [HO H1]
  · isplitr; · iexact HR
    isplitl [HO]; · iexact HO
    iexact H1
  iintro ⟨HO, H1⟩
  iapply (wt m P c 20 rfl (by decide) rfl (by decide) (vV_amt _ _)) $$ [HO H2]
  · isplitr; · iexact HR
    isplitl [HO]; · iexact HO
    iexact H2
  iintro ⟨HO, H2⟩
  iapply (wt m P c 9 rfl (by decide) rfl (by decide) (aV_amt _ _)) $$ [HO H3]
  · isplitr; · iexact HR
    isplitl [HO]; · iexact HO
    iexact H3
  iintro ⟨HO, H3⟩
  iapply (wt m P c 13 rfl (by decide) rfl (by decide) (kV_amt _ _)) $$ [HO H4]
  · isplitr; · iexact HR
    isplitl [HO]; · iexact HO
    iexact H4
  iintro ⟨HO, H4⟩
  iapply Hk
  isplitl [HO]; · iexact HO
  isplitl [H1]; · iexact H1
  isplitl [H2]; · iexact H2
  isplitl [H3]; · iexact H3
  iexact H4

theorem part10_ok (c : Dev nD) (v : BitVec 32) {α : Type} {Q : α → sProp 𝕄}
    {K : (Σ' (v245 : IVec S512x2048 32) (v264 : IVec S512x2048 1), IVec S512x2048 32) → Prog (TpuEff nD τ sig (Elt F) Λ₀ .tc) α} :
    iprop(recs m P ∗ owing c (ring c) ∗ gw c 17 21)
      ⊢ iprop(((owing c (ring c) ∗ got m P c 17 ∗ got m P c 21) -∗ rn c (K ⟨k0_pay4, k0_pay5, k0_pay6⟩) Q)
        -∗ rn c (app (k0_part10 (F := F)) c v >>= K) Q) := by
  simp only [k0_part10_eq_skeleton]; unfold app rn gw k0_part10_skel
  simp only [Prog.lift, Prog.bind_op, Prog.bind_ret, Prog.pure_eq_ret]
  iintro ⟨#HR, HO, H1, H2⟩ Hk
  iapply (wt m P c 17 rfl (by decide) rfl (by decide) (bV_amt _ _)) $$ [HO H1]
  · isplitr; · iexact HR
    isplitl [HO]; · iexact HO
    iexact H1
  iintro ⟨HO, H1⟩
  iapply (wt m P c 21 rfl (by decide) rfl (by decide) (vV_amt _ _)) $$ [HO H2]
  · isplitr; · iexact HR
    isplitl [HO]; · iexact HO
    iexact H2
  iintro ⟨HO, H2⟩
  iapply Hk
  isplitl [HO]; · iexact HO
  isplitl [H1]; · iexact H1
  iexact H2

/-! ## The slots joined -/

/-- A buffer whose four slots, from any slot on round the ring, are held. -/
theorem ring_join {ℓ : Loc nD τ sig} (K : Fin 4 → Finset (Idx ℓ)) (φ : Idx ℓ → ℕ) (hφ : ∀ x, φ x < 4) (h : ∀ j x, x ∈ K j ↔ φ x = j.val)
    (c : Fin 4) (f : Buf (Elt F) ℓ) :
    iprop((ℓ ↦[K (sh c 0)]{fullShare} f) ∗ (ℓ ↦[K (sh c 1)]{fullShare} f) ∗ (ℓ ↦[K (sh c 2)]{fullShare} f) ∗ (ℓ ↦[K (sh c 3)]{fullShare} f))
      = (ℓ ↦{fullShare} f : sProp 𝕄) := by
  have e : (ℓ ↦{fullShare} f : sProp 𝕄) = bigSep Finset.univ fun j : Fin 4 => (ℓ ↦[K j]{fullShare} f : sProp 𝕄) := by
    rw [← pointsTo_biUnion Finset.univ K (fibres_disjoint K φ h), fibres_cover K φ hφ h]
  obtain ⟨ε, hε⟩ : ∃ ε : Fin 4 ≃ Fin 4, ∀ o : Fin 4, ε o = sh c o.val := ⟨Equiv.ofBijective (fun o : Fin 4 => sh c o.val) (by revert c; decide), fun _ => rfl⟩
  have e' : (bigSep Finset.univ fun j : Fin 4 => (ℓ ↦[K j]{fullShare} f : sProp 𝕄)) = bigSep Finset.univ fun o : Fin 4 => (ℓ ↦[K (sh c o.val)]{fullShare} f : sProp 𝕄) := by
    rw [bigSep_univ_equiv ε]; simp only [hε]
  rw [e, e', bigSep_univ_eq_bigSepL [0, 1, 2, 3] (by decide) (by decide)]
  simp only [bigSepL_cons_cons, bigSepL_singleton]
  rfl

theorem kS_join (c c' : Dev nD) (f : S2x2048x8x64.Idx → Elt F .f32) :
    iprop(kS c (sh c' 0) f ∗ kS c (sh c' 1) f ∗ kS c (sh c' 2) f ∗ kS c (sh c' 3) f) = own c mK f :=
  ring_join (ℓ := (c : Thread nD τ).loc cc0_scratch0) (fun j => (kRect j).set) (fun i => ((show S2x2048x8x64.Idx from i) 1).val / 512)
    (fun i => Nat.div_lt_of_lt_mul ((show S2x2048x8x64.Idx from i) 1).isLt) mem_kRect c' f
theorem vS_join (c c' : Dev nD) (f : S2x2048x8x64.Idx → Elt F .f32) :
    iprop(vS c (sh c' 0) f ∗ vS c (sh c' 1) f ∗ vS c (sh c' 2) f ∗ vS c (sh c' 3) f) = own c mV f :=
  ring_join (ℓ := (c : Thread nD τ).loc cc0_scratch1) (fun j => (kRect j).set) (fun i => ((show S2x2048x8x64.Idx from i) 1).val / 512)
    (fun i => Nat.div_lt_of_lt_mul ((show S2x2048x8x64.Idx from i) 1).isLt) mem_kRect c' f
theorem aS_join (c c' : Dev nD) (f : S2x512x32x64.Idx → Elt F .f32) :
    iprop(aS c (sh c' 0) f ∗ aS c (sh c' 1) f ∗ aS c (sh c' 2) f ∗ aS c (sh c' 3) f) = (((c : Thread nD τ).loc main_arg2) ↦{fullShare} f) :=
  ring_join (ℓ := (c : Thread nD τ).loc main_arg2) (fun j => (hRect j).set) (fun i => ((show S2x512x32x64.Idx from i) 2).val / 8)
    (fun i => Nat.div_lt_of_lt_mul ((show S2x512x32x64.Idx from i) 2).isLt) mem_hRect c' f
theorem bS_join (c c' : Dev nD) (f : S2x512x32x64.Idx → Elt F .f32) :
    iprop(bS c (sh c' 0) f ∗ bS c (sh c' 1) f ∗ bS c (sh c' 2) f ∗ bS c (sh c' 3) f) = (((c : Thread nD τ).loc main_arg3) ↦{fullShare} f) :=
  ring_join (ℓ := (c : Thread nD τ).loc main_arg3) (fun j => (hRect j).set) (fun i => ((show S2x512x32x64.Idx from i) 2).val / 8)
    (fun i => Nat.div_lt_of_lt_mul ((show S2x512x32x64.Idx from i) 2).isLt) mem_hRect c' f
theorem pS_join (c c' : Dev nD) (f : S4x256x768.Idx → Elt F .f32) :
    iprop(pS c (sh c' 0) f ∗ pS c (sh c' 1) f ∗ pS c (sh c' 2) f ∗ pS c (sh c' 3) f) = own c mP f :=
  ring_join (ℓ := (c : Thread nD τ).loc cc0_scratch4) (fun j => (pRect j).set) (fun i => ((show S4x256x768.Idx from i) 0).val)
    (fun i => ((show S4x256x768.Idx from i) 0).isLt) mem_pRect c' f
theorem oS_join (c c' : Dev nD) (f : S4x256x768.Idx → Elt F .f32) :
    iprop(oS c (sh c' 0) f ∗ oS c (sh c' 1) f ∗ oS c (sh c' 2) f ∗ oS c (sh c' 3) f) = own c mS f :=
  ring_join (ℓ := (c : Thread nD τ).loc cc0_scratch6) (fun j => (pRect j).set) (fun i => ((show S4x256x768.Idx from i) 0).val)
    (fun i => ((show S4x256x768.Idx from i) 0).isLt) mem_pRect c' f

end Parts

end Cert.KernelIdealProof

end
-- ==== Proof.BodyC.lean ====
/-
# `BodyC`: the attention

Head by head the queries, keys and values are read and the head's result stored; then the partial product with the output
weights is stored, in four slots.
-/
module

public import proofs.«01_k».proof.Proof.BodyB

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Heads
variable (c : Dev nD) (q : S2x512x512.Idx → Elt F .f32) (k v : S2x2048x8x64.Idx → Elt F .f32)

/-- The first `n` heads of the result, entry by entry. -/
abbrev cUp (n : ℕ) : S2x512x512.Idx → Prop := fun i => 8 * (i 0).val + (i 2).val / 64 < n

/-- The queries, the keys and values, and the first `n` heads of the result. -/
def hd (n : ℕ) : sProp 𝕄 := iprop((own c mQ q ∗ own c mK k ∗ own c mV v) ∗ fl c mC (Cof q k v) (cUp n))

abbrev hq (b : Fin 2) (h : Fin 8) : Vec F S1x512x64 .f32 := blk q (cR b h)
abbrev hk (b : Fin 2) (h : Fin 8) : Vec F S1x2048x1x64 .f32 := blk k (eR b h)
abbrev hv (b : Fin 2) (h : Fin 8) : Vec F S1x2048x1x64 .f32 := blk v (eR b h)

theorem ld_q (n : ℕ) {r : Rect S2x512x512} {hl : mQ.view.LoadsAt r}
    {α : Type} {Q : α → sProp 𝕄} {K : (r.shape.Idx → Elt F .f32) → Prog (TpuEff nD τ sig (Elt F) Λ₀ .tc) α} :
    hd c q k v n ⊢ iprop((hd c q k v n -∗ rn c (K (mQ.view.readAt (Elt F) r.toLoadRect q)) Q) -∗ rn c (.op (.load mQ r.toLoadRect hl) K) Q) := by
  unfold hd
  iintro ⟨⟨Hq, Hk, Hv⟩, Hc⟩ HK
  iapply (st_load c mQ (r := r) q) $$ Hq; iintro Hq
  iapply HK
  isplitr [Hc]; swap; · iexact Hc
  isplitl [Hq]; · iexact Hq
  isplitl [Hk]; · iexact Hk
  iexact Hv

theorem ld_k (n : ℕ) {r : Rect S2x2048x8x64} {hl : mK.view.LoadsAt r}
    {α : Type} {Q : α → sProp 𝕄} {K : (r.shape.Idx → Elt F .f32) → Prog (TpuEff nD τ sig (Elt F) Λ₀ .tc) α} :
    hd c q k v n ⊢ iprop((hd c q k v n -∗ rn c (K (mK.view.readAt (Elt F) r.toLoadRect k)) Q) -∗ rn c (.op (.load mK r.toLoadRect hl) K) Q) := by
  unfold hd
  iintro ⟨⟨Hq, Hk, Hv⟩, Hc⟩ HK
  iapply (st_load c mK (r := r) k) $$ Hk; iintro Hk
  iapply HK
  isplitr [Hc]; swap; · iexact Hc
  isplitl [Hq]; · iexact Hq
  isplitl [Hk]; · iexact Hk
  iexact Hv

theorem ld_v (n : ℕ) {r : Rect S2x2048x8x64} {hl : mV.view.LoadsAt r}
    {α : Type} {Q : α → sProp 𝕄} {K : (r.shape.Idx → Elt F .f32) → Prog (TpuEff nD τ sig (Elt F) Λ₀ .tc) α} :
    hd c q k v n ⊢ iprop((hd c q k v n -∗ rn c (K (mV.view.readAt (Elt F) r.toLoadRect v)) Q) -∗ rn c (.op (.load mV r.toLoadRect hl) K) Q) := by
  unfold hd
  iintro ⟨⟨Hq, Hk, Hv⟩, Hc⟩ HK
  iapply (st_load c mV (r := r) v) $$ Hv; iintro Hv
  iapply HK
  isplitr [Hc]; swap; · iexact Hc
  isplitl [Hq]; · iexact Hq
  isplitl [Hk]; · iexact Hk
  iexact Hv

/-- Reading the queries, the keys and the values of a head. -/
theorem get (n : ℕ) {r : Rect S2x512x512} {r' r'' : Rect S2x2048x8x64} {hl : mQ.view.LoadsAt r} {hl' : mK.view.LoadsAt r'} {hl'' : mV.view.LoadsAt r''}
    {α : Type} {Q : α → sProp 𝕄} {K : (r.shape.Idx → Elt F .f32) → (r'.shape.Idx → Elt F .f32) → (r''.shape.Idx → Elt F .f32) → Prog (TpuEff nD τ sig (Elt F) Λ₀ .tc) α} :
    hd c q k v n
      ⊢ iprop((hd c q k v n -∗ rn c (K (mQ.view.readAt (Elt F) r.toLoadRect q) (mK.view.readAt (Elt F) r'.toLoadRect k) (mV.view.readAt (Elt F) r''.toLoadRect v)) Q)
        -∗ rn c (.op (.load mQ r.toLoadRect hl) fun a => .op (.load mK r'.toLoadRect hl') fun b => .op (.load mV r''.toLoadRect hl'') fun d => K a b d) Q) := by
  iintro H Hk
  iapply (ld_q c q k v n) $$ H; iintro H
  iapply (ld_k c q k v n) $$ H; iintro H
  iapply (ld_v c q k v n) $$ H; iintro H
  iapply Hk
  iexact H

/-- Storing a head: the old contents are read, and not used, and the new ones stored. -/
theorem put (b : Fin 2) (h : Fin 8) (n n' : ℕ) (hn : n = 8 * b.val + h.val) (hn' : n' = 8 * b.val + h.val + 1) {off : Fin 3 → ℕ} {inb}
    (ho : off = ![b.val, 0, 64 * h.val]) {u : Vec F S1x512x64 .f32} (hu : k0_pay12 msk (hq q b h) (hk k b h) (hv v b h) = u)
    {hl : mC.view.LoadsAt (Rect.unit (s := S2x512x512) off S1x512x64.size inb)}
    {hx : (mC.access (Rect.unit (s := S2x512x512) off S1x512x64.size inb)).Stores Finset.univ}
    {hm : (Finset.univ : Finset S1x512x64.Idx) = Finset.univ ∨ ∀ a, (Rect.unit (s := S2x512x512) off S1x512x64.size inb).stride a = 1}
    {α : Type} {Q : α → sProp 𝕄} {K : PUnit → Prog (TpuEff nD τ sig (Elt F) Λ₀ .tc) α} :
    hd c q k v n
      ⊢ iprop((hd c q k v n' -∗ rn c (K ⟨⟩) Q)
        -∗ rn c (.op (.load mC (Rect.unit (s := S2x512x512) off S1x512x64.size inb).toLoadRect hl) fun _ =>
            .op (.store mC (Rect.unit (s := S2x512x512) off S1x512x64.size inb) u Finset.univ hx hm) K) Q) := by
  subst ho hn hn'
  unfold hd
  iintro ⟨H, Hc⟩ HK
  iapply (fl_load c mC (Cof q k v) (cUp (8 * b.val + h.val))) $$ Hc; iintro Hc
  iapply (fl_store c mC (r := cR b h) (Cof q k v) (cUp (8 * b.val + h.val)) (cUp (8 * b.val + h.val + 1)) (fun i hi => ?_) (fun y => ?_)) $$ Hc
  · have h1 : (i 1).val < 512 := (i 1).isLt
    have h2 : (i 2).val < 512 := (i 2).isLt
    have hb : b.val < 2 := b.isLt
    have hh : h.val < 8 := h.isLt
    have hi' : 8 * (i 0).val + (i 2).val / 64 < 8 * b.val + h.val + 1 := hi
    rcases Nat.lt_or_ge (8 * (i 0).val + (i 2).val / 64) (8 * b.val + h.val) with hlt | hge
    · exact Or.inl hlt
    · refine Or.inr ?_
      rw [show (mC.access (cR b h)).set = (cR b h).set from View.set_slice_whole .., Rect.mem_set_unit]
      intro a
      match a with
      | 0 => exact ⟨(show b.val ≤ (i 0).val by omega), (show (i 0).val < b.val + 1 by omega)⟩
      | 1 => exact ⟨Nat.zero_le _, (show (i 1).val < 0 + 512 by omega)⟩
      | 2 => exact ⟨(show 64 * h.val ≤ (i 2).val by omega), (show (i 2).val < 64 * h.val + 64 by omega)⟩
  · rw [← hu]; exact Cof_emb q k v b h y
  iintro Hc
  iapply HK
  isplitl [H]; · iexact H
  iexact Hc

end Heads

section Parts
variable (c : Dev nD) (q : S2x512x512.Idx → Elt F .f32) (k v : S2x2048x8x64.Idx → Elt F .f32)

theorem part11_ok {α : Type} {Q : α → sProp 𝕄}
    {K : (Σ' (v292 : IVec S512x2048 32) (v308 : IVec S512x2048 32) (c4_i32_306 : BitVec 32) (v309 : BitVec 1), BitVec 32) → Prog (TpuEff nD τ sig (Elt F) Λ₀ .tc) α}
    (v245 : IVec S512x2048 32) (v264 : IVec S512x2048 1) (v265 : IVec S512x2048 32) :
    rn c (K ⟨k0_pay7, k0_pay8 v245 v264 v265, 4#32, Scalar.cmpi .eq 4#32 0#32, 1#32⟩) Q
      ⊢ rn c (app (k0_part11 (F := F)) v245 v264 v265 >>= K) Q := by
  simp only [k0_part11_eq_skeleton]; unfold app rn k0_part11_skel
  simp only [Prog.lift, Prog.bind_op, Prog.bind_ret, Prog.pure_eq_ret]
  exact Entails.rfl

theorem part12_ok {α : Type} {Q : α → sProp 𝕄}
    {K : (Σ' (v325 : IVec S512x2048 1), FVec F S512x64 .f32) → Prog (TpuEff nD τ sig (Elt F) Λ₀ .tc) α} (n : ℕ)
    (a b : IVec S512x2048 32) (x : BitVec 32) (y : BitVec 1) (z : BitVec 32) :
    hd c q k v n
      ⊢ iprop((hd c q k v n -∗ rn c (K ⟨k0_pay9 a b x y z, k0_pay10 a b x y z (hq q 0 0) (hk k 0 0) (hv v 0 0)⟩) Q)
        -∗ rn c (app (k0_part12 (F := F)) a b x y z >>= K) Q) := by
  simp only [k0_part12_eq_skeleton]; unfold app rn k0_part12_skel
  simp only [Prog.lift, Prog.bind_op, Prog.bind_ret, Prog.pure_eq_ret]
  iintro H Hk
  iapply (ld_q c q k v n) $$ H; iintro H
  iapply (ld_k c q k v n) $$ H; iintro H
  iapply (ld_v c q k v n) $$ H; iintro H
  iapply Hk
  iexact H

theorem part13_ok {α : Type} {Q : α → sProp 𝕄}
    {K : (Σ' (v375 : FVec F S512x64 .f32), FVec F S2048x64 .f32) → Prog (TpuEff nD τ sig (Elt F) Λ₀ .tc) α}
    (u : FVec F S512x64 .f32) (hu : k0_pay12 msk (hq q 0 0) (hk k 0 0) (hv v 0 0) = k0_pay11 u) :
    hd c q k v 0
      ⊢ iprop((hd c q k v 2 -∗ rn c (K ⟨k0_pay13 (hq q 0 2), k0_pay14 (hk k 0 2)⟩) Q)
        -∗ rn c (app (k0_part13 (F := F)) msk u >>= K) Q) := by
  simp only [k0_part13_eq_skeleton]; unfold app rn k0_part13_skel
  simp only [Prog.lift, Prog.bind_op, Prog.bind_ret, Prog.pure_eq_ret]
  iintro H Hk
  iapply (put c q k v 0 0 0 1 rfl rfl rfl hu) $$ H; iintro H
  iapply (get c q k v 1) $$ H; iintro H
  iapply (put c q k v 0 1 1 2 rfl rfl rfl rfl) $$ H; iintro H
  iapply (ld_q c q k v 2) $$ H; iintro H
  iapply (ld_k c q k v 2) $$ H; iintro H
  iapply Hk
  iexact H

theorem part14_ok {α : Type} {Q : α → sProp 𝕄}
    {K : (Σ' (v403 : FVec F S2048x64 .f32), FVec F S512x2048 .f32) → Prog (TpuEff nD τ sig (Elt F) Λ₀ .tc) α} :
    hd c q k v 2
      ⊢ iprop((hd c q k v 3 -∗ rn c (K ⟨k0_pay16 (hv v 0 3), k0_pay17 msk (hq q 0 3) (hk k 0 3)⟩) Q)
        -∗ rn c (app (k0_part14 (F := F)) msk (k0_pay13 (hq q 0 2)) (k0_pay14 (hk k 0 2)) >>= K) Q) := by
  simp only [k0_part14_eq_skeleton]; unfold app rn k0_part14_skel
  simp only [Prog.lift, Prog.bind_op, Prog.bind_ret, Prog.pure_eq_ret]
  iintro H Hk
  iapply (ld_v c q k v 2) $$ H; iintro H
  iapply (put c q k v 0 2 2 3 rfl rfl rfl rfl) $$ H; iintro H
  iapply (get c q k v 3) $$ H; iintro H
  iapply Hk
  iexact H

theorem part15_ok {α : Type} {Q : α → sProp 𝕄}
    {K : FVec F S512x64 .f32 → Prog (TpuEff nD τ sig (Elt F) Λ₀ .tc) α} :
    hd c q k v 3
      ⊢ iprop((hd c q k v 4 -∗ rn c (K (k0_pay19 msk (hq q 0 4) (hk k 0 4) (hv v 0 4))) Q)
        -∗ rn c (app (k0_part15 (F := F)) msk (k0_pay16 (hv v 0 3)) (k0_pay17 msk (hq q 0 3) (hk k 0 3)) >>= K) Q) := by
  simp only [k0_part15_eq_skeleton]; unfold app rn k0_part15_skel
  simp only [Prog.lift, Prog.bind_op, Prog.bind_ret, Prog.pure_eq_ret]
  iintro H Hk
  iapply (put c q k v 0 3 3 4 rfl rfl rfl rfl) $$ H; iintro H
  iapply (get c q k v 4) $$ H; iintro H
  iapply Hk
  iexact H

theorem part16_ok {α : Type} {Q : α → sProp 𝕄}
    {K : (Σ' (_ : FVec F S512x64 .f32), FVec F S2048x64 .f32) → Prog (TpuEff nD τ sig (Elt F) Λ₀ .tc) α} :
    hd c q k v 4
      ⊢ iprop((hd c q k v 6 -∗ rn c (K ⟨k0_pay22 (hq q 0 6), k0_pay23 (hk k 0 6)⟩) Q)
        -∗ rn c (app (k0_part16 (F := F)) msk (k0_pay19 msk (hq q 0 4) (hk k 0 4) (hv v 0 4)) >>= K) Q) := by
  simp only [k0_part16_eq_skeleton]; unfold app rn k0_part16_skel
  simp only [Prog.lift, Prog.bind_op, Prog.bind_ret, Prog.pure_eq_ret]
  iintro H Hk
  iapply (put c q k v 0 4 4 5 rfl rfl rfl rfl) $$ H; iintro H
  iapply (get c q k v 5) $$ H; iintro H
  iapply (put c q k v 0 5 5 6 rfl rfl rfl rfl) $$ H; iintro H
  iapply (ld_q c q k v 6) $$ H; iintro H
  iapply (ld_k c q k v 6) $$ H; iintro H
  iapply Hk
  iexact H

theorem part17_ok {α : Type} {Q : α → sProp 𝕄}
    {K : (Σ' (_ : FVec F S2048x64 .f32), FVec F S512x2048 .f32) → Prog (TpuEff nD τ sig (Elt F) Λ₀ .tc) α} :
    hd c q k v 6
      ⊢ iprop((hd c q k v 7 -∗ rn c (K ⟨k0_pay25 (hv v 0 7), k0_pay26 msk (hq q 0 7) (hk k 0 7)⟩) Q)
        -∗ rn c (app (k0_part17 (F := F)) msk (k0_pay22 (hq q 0 6)) (k0_pay23 (hk k 0 6)) >>= K) Q) := by
  simp only [k0_part17_eq_skeleton]; unfold app rn k0_part17_skel
  simp only [Prog.lift, Prog.bind_op, Prog.bind_ret, Prog.pure_eq_ret]
  iintro H Hk
  iapply (ld_v c q k v 6) $$ H; iintro H
  iapply (put c q k v 0 6 6 7 rfl rfl rfl rfl) $$ H; iintro H
  iapply (get c q k v 7) $$ H; iintro H
  iapply Hk
  iexact H

theorem part18_ok {α : Type} {Q : α → sProp 𝕄}
    {K : FVec F S512x64 .f32 → Prog (TpuEff nD τ sig (Elt F) Λ₀ .tc) α} :
    hd c q k v 7
      ⊢ iprop((hd c q k v 8 -∗ rn c (K (k0_pay28 msk (hq q 1 0) (hk k 1 0) (hv v 1 0))) Q)
        -∗ rn c (app (k0_part18 (F := F)) msk (k0_pay25 (hv v 0 7)) (k0_pay26 msk (hq q 0 7) (hk k 0 7)) >>= K) Q) := by
  simp only [k0_part18_eq_skeleton]; unfold app rn k0_part18_skel
  simp only [Prog.lift, Prog.bind_op, Prog.bind_ret, Prog.pure_eq_ret]
  iintro H Hk
  iapply (put c q k v 0 7 7 8 rfl rfl rfl rfl) $$ H; iintro H
  iapply (get c q k v 8) $$ H; iintro H
  iapply Hk
  iexact H

theorem part19_ok {α : Type} {Q : α → sProp 𝕄}
    {K : (Σ' (_ : FVec F S512x64 .f32), FVec F S2048x64 .f32) → Prog (TpuEff nD τ sig (Elt F) Λ₀ .tc) α} :
    hd c q k v 8
      ⊢ iprop((hd c q k v 10 -∗ rn c (K ⟨k0_pay31 (hq q 1 2), k0_pay32 (hk k 1 2)⟩) Q)
        -∗ rn c (app (k0_part19 (F := F)) msk (k0_pay28 msk (hq q 1 0) (hk k 1 0) (hv v 1 0)) >>= K) Q) := by
  simp only [k0_part19_eq_skeleton]; unfold app rn k0_part19_skel
  simp only [Prog.lift, Prog.bind_op, Prog.bind_ret, Prog.pure_eq_ret]
  iintro H Hk
  iapply (put c q k v 1 0 8 9 rfl rfl rfl rfl) $$ H; iintro H
  iapply (get c q k v 9) $$ H; iintro H
  iapply (put c q k v 1 1 9 10 rfl rfl rfl rfl) $$ H; iintro H
  iapply (ld_q c q k v 10) $$ H; iintro H
  iapply (ld_k c q k v 10) $$ H; iintro H
  iapply Hk
  iexact H

theorem part20_ok {α : Type} {Q : α → sProp 𝕄}
    {K : (Σ' (_ : FVec F S2048x64 .f32), FVec F S512x2048 .f32) → Prog (TpuEff nD τ sig (Elt F) Λ₀ .tc) α} :
    hd c q k v 10
      ⊢ iprop((hd c q k v 11 -∗ rn c (K ⟨k0_pay34 (hv v 1 3), k0_pay35 msk (hq q 1 3) (hk k 1 3)⟩) Q)
        -∗ rn c (app (k0_part20 (F := F)) msk (k0_pay31 (hq q 1 2)) (k0_pay32 (hk k 1 2)) >>= K) Q) := by
  simp only [k0_part20_eq_skeleton]; unfold app rn k0_part20_skel
  simp only [Prog.lift, Prog.bind_op, Prog.bind_ret, Prog.pure_eq_ret]
  iintro H Hk
  iapply (ld_v c q k v 10) $$ H; iintro H
  iapply (put c q k v 1 2 10 11 rfl rfl rfl rfl) $$ H; iintro H
  iapply (get c q k v 11) $$ H; iintro H
  iapply Hk
  iexact H

theorem part21_ok {α : Type} {Q : α → sProp 𝕄}
    {K : FVec F S512x64 .f32 → Prog (TpuEff nD τ sig (Elt F) Λ₀ .tc) α} :
    hd c q k v 11
      ⊢ iprop((hd c q k v 12 -∗ rn c (K (k0_pay37 msk (hq q 1 4) (hk k 1 4) (hv v 1 4))) Q)
        -∗ rn c (app (k0_part21 (F := F)) msk (k0_pay34 (hv v 1 3)) (k0_pay35 msk (hq q 1 3) (hk k 1 3)) >>= K) Q) := by
  simp only [k0_part21_eq_skeleton]; unfold app rn k0_part21_skel
  simp only [Prog.lift, Prog.bind_op, Prog.bind_ret, Prog.pure_eq_ret]
  iintro H Hk
  iapply (put c q k v 1 3 11 12 rfl rfl rfl rfl) $$ H; iintro H
  iapply (get c q k v 12) $$ H; iintro H
  iapply Hk
  iexact H

theorem part22_ok {α : Type} {Q : α → sProp 𝕄}
    {K : (Σ' (_ : FVec F S512x64 .f32), FVec F S2048x64 .f32) → Prog (TpuEff nD τ sig (Elt F) Λ₀ .tc) α} :
    hd c q k v 12
      ⊢ iprop((hd c q k v 14 -∗ rn c (K ⟨k0_pay40 (hq q 1 6), k0_pay41 (hk k 1 6)⟩) Q)
        -∗ rn c (app (k0_part22 (F := F)) msk (k0_pay37 msk (hq q 1 4) (hk k 1 4) (hv v 1 4)) >>= K) Q) := by
  simp only [k0_part22_eq_skeleton]; unfold app rn k0_part22_skel
  simp only [Prog.lift, Prog.bind_op, Prog.bind_ret, Prog.pure_eq_ret]
  iintro H Hk
  iapply (put c q k v 1 4 12 13 rfl rfl rfl rfl) $$ H; iintro H
  iapply (get c q k v 13) $$ H; iintro H
  iapply (put c q k v 1 5 13 14 rfl rfl rfl rfl) $$ H; iintro H
  iapply (ld_q c q k v 14) $$ H; iintro H
  iapply (ld_k c q k v 14) $$ H; iintro H
  iapply Hk
  iexact H

theorem part23_ok {α : Type} {Q : α → sProp 𝕄}
    {K : (Σ' (_ : FVec F S2048x64 .f32), FVec F S512x2048 .f32) → Prog (TpuEff nD τ sig (Elt F) Λ₀ .tc) α} :
    hd c q k v 14
      ⊢ iprop((hd c q k v 15 -∗ rn c (K ⟨k0_pay43 (hv v 1 7), k0_pay44 msk (hq q 1 7) (hk k 1 7)⟩) Q)
        -∗ rn c (app (k0_part23 (F := F)) msk (k0_pay40 (hq q 1 6)) (k0_pay41 (hk k 1 6)) >>= K) Q) := by
  simp only [k0_part23_eq_skeleton]; unfold app rn k0_part23_skel
  simp only [Prog.lift, Prog.bind_op, Prog.bind_ret, Prog.pure_eq_ret]
  iintro H Hk
  iapply (ld_v c q k v 14) $$ H; iintro H
  iapply (put c q k v 1 6 14 15 rfl rfl rfl rfl) $$ H; iintro H
  iapply (get c q k v 15) $$ H; iintro H
  iapply Hk
  iexact H

/-! ## The partial product -/

/-- All heads are stored. -/
theorem hd_done : hd c q k v 16 ⊢ iprop((own c mQ q ∗ own c mK k ∗ own c mV v) ∗ own c mC (Cof q k v)) := by
  unfold hd
  iintro ⟨H, Hc⟩
  isplitl [H]; · iexact H
  ihave Hc := (fl_done c mC (Cof q k v) (cUp 16) (fun i => by
    have h0 : (i 0).val < 2 := (i 0).isLt
    have h2 : (i 2).val < 512 := (i 2).isLt
    show 8 * (i 0).val + (i 2).val / 64 < 16
    omega)) $$ Hc
  iexact Hc

/-- The first `n` slots of the partial product. -/
abbrev pUp (n : ℕ) : S4x256x768.Idx → Prop := fun i => (i 0).val < n

/-- Storing a slot of the partial product. -/
theorem p_put (C : S4x256x768.Idx → Elt F .f32) (j : Fin 4) (n n' : ℕ) (hn : n = j.val) (hn' : n' = j.val + 1) {off : Fin 3 → ℕ} {inb}
    (ho : off = pOff j) {u : Vec F S1x256x768 .f32} (hu : slotOf C j = u)
    {hl : mP.view.LoadsAt (Rect.unit (s := S4x256x768) off S1x256x768.size inb)}
    {hx : (mP.access (Rect.unit (s := S4x256x768) off S1x256x768.size inb)).Stores Finset.univ}
    {hm : (Finset.univ : Finset S1x256x768.Idx) = Finset.univ ∨ ∀ a, (Rect.unit (s := S4x256x768) off S1x256x768.size inb).stride a = 1}
    {α : Type} {Q : α → sProp 𝕄} {K : PUnit → Prog (TpuEff nD τ sig (Elt F) Λ₀ .tc) α} :
    (fl c mP C (pUp n) : sProp 𝕄)
      ⊢ iprop((fl c mP C (pUp n') -∗ rn c (K ⟨⟩) Q)
        -∗ rn c (.op (.load mP (Rect.unit (s := S4x256x768) off S1x256x768.size inb).toLoadRect hl) fun _ =>
            .op (.store mP (Rect.unit (s := S4x256x768) off S1x256x768.size inb) u Finset.univ hx hm) K) Q) := by
  subst ho hn hn'
  iintro Hc HK
  iapply (fl_load c mP C (pUp j.val)) $$ Hc; iintro Hc
  iapply (fl_store c mP (r := pRect j) C (pUp j.val) (pUp (j.val + 1)) (fun i hi => ?_) (fun y => ?_)) $$ Hc
  · have hi' : (i 0).val < j.val + 1 := hi
    rcases Nat.lt_or_ge (i 0).val j.val with hlt | hge
    · exact Or.inl hlt
    · refine Or.inr ?_
      rw [show (mP.access (pRect j)).set = (pRect j).set from View.set_slice_whole ..]
      exact (mem_pRect j i).mpr (by omega)
  · rw [← hu]; exact slot_emb C j _ y
  iintro Hc
  iapply HK
  iexact Hc

theorem part24_ok (w : S512x768.Idx → Elt F .f32) {α : Type} {Q : α → sProp 𝕄}
    {K : (Σ' (_ : FVec F S512x768 .f32), FVec F S256x768 .f32) → Prog (TpuEff nD τ sig (Elt F) Λ₀ .tc) α} :
    iprop(hd c q k v 15 ∗ own c mW' w ∗ fl c mP (Pof (Cof q k v) w) (pUp 0))
      ⊢ iprop((((own c mQ q ∗ own c mK k ∗ own c mV v) ∗ own c mC (Cof q k v) ∗ own c mW' w ∗ fl c mP (Pof (Cof q k v) w) (pUp 2))
          -∗ rn c (K ⟨k0_pay49 (blk (Cof q k v) (qR 1)) (blk w wR'), k0_pay50 (blk (Cof q k v) (qR 1)) (blk w wR')⟩) Q)
        -∗ rn c (app (k0_part24 (F := F)) (k0_pay43 (hv v 1 7)) (k0_pay44 msk (hq q 1 7) (hk k 1 7)) >>= K) Q) := by
  simp only [k0_part24_eq_skeleton]; unfold app rn k0_part24_skel
  simp only [Prog.lift, Prog.bind_op, Prog.bind_ret, Prog.pure_eq_ret]
  iintro ⟨H, Hw, Hp⟩ Hk
  iapply (put c q k v 1 7 15 16 rfl rfl rfl rfl) $$ H; iintro H
  ihave H := (hd_done c q k v) $$ H
  icases H with ⟨H, Hc⟩
  iapply (st_load c mC (Cof q k v)) $$ Hc; iintro Hc
  iapply (st_load c mW' w) $$ Hw; iintro Hw
  iapply (p_put c (Pof (Cof q k v) w) 0 0 1 rfl rfl rfl (slotOf_ofSlots _ _)) $$ Hp; iintro Hp
  iapply (p_put c (Pof (Cof q k v) w) 1 1 2 rfl rfl rfl (slotOf_ofSlots _ _)) $$ Hp; iintro Hp
  iapply (st_load c mC (Cof q k v)) $$ Hc; iintro Hc
  iapply (st_load c mW' w) $$ Hw; iintro Hw
  iapply Hk
  isplitl [H]; · iexact H
  isplitl [Hc]; · iexact Hc
  isplitl [Hw]; · iexact Hw
  iexact Hp

end Parts

end Cert.KernelIdealProof

end
-- ==== Proof.BodyD.lean ====
/-
# `BodyD`: the sum round the ring

Three steps of reduction, after which each device holds one finished slot; three steps in which the finished slots travel on;
and the result put together.
-/
module

public import proofs.«01_k».proof.Proof.BodyC
public import Idealize.ShloMosaic.Lib.Pipeline.Value

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Reading and writing slots -/

/-- A buffer at a position of a slot. -/
theorem slot_at (f : S4x256x768.Idx → Elt F .f32) (j : Fin 4) (i : S4x256x768.Idx) (h : (i 0).val = j.val) :
    f i = slotOf f j fun
      | 0 => ⟨0, by decide⟩
      | 1 => ⟨(i 1).val, (i 1).isLt⟩
      | 2 => ⟨(i 2).val, (i 2).isLt⟩ := by
  unfold slotOf
  congr 1
  funext a
  match a with
  | 0 => exact Fin.ext h
  | 1 => rfl
  | 2 => rfl

/-- Two contents that agree on a slot. -/
theorem pS_congr (c : Dev nD) (j : Fin 4) (f g : S4x256x768.Idx → Elt F .f32) (h : slotOf f j = slotOf g j) : (pS c j f : sProp 𝕄) = pS c j g :=
  pointsTo_congr fun i hi => by
    rw [slot_at f j i ((mem_pRect j i).mp hi), slot_at g j i ((mem_pRect j i).mp hi), h]
theorem oS_congr (c : Dev nD) (j : Fin 4) (f g : S4x256x768.Idx → Elt F .f32) (h : slotOf f j = slotOf g j) : (oS c j f : sProp 𝕄) = oS c j g :=
  pointsTo_congr fun i hi => by
    rw [slot_at f j i ((mem_pRect j i).mp hi), slot_at g j i ((mem_pRect j i).mp hi), h]

theorem ld_p (c : Dev nD) (j : Fin 4) (f : S4x256x768.Idx → Elt F .f32) {off : Fin 3 → ℕ} {inb} (ho : off = pOff j)
    {hl : mP.view.LoadsAt (Rect.unit (s := S4x256x768) off S1x256x768.size inb)}
    {α : Type} {Q : α → sProp 𝕄} {K : (S1x256x768.Idx → Elt F .f32) → Prog (TpuEff nD τ sig (Elt F) Λ₀ .tc) α} :
    pS c j f ⊢ iprop((pS c j f -∗ rn c (K (slotOf f j)) Q) -∗ rn c (.op (.load mP (Rect.unit (s := S4x256x768) off S1x256x768.size inb).toLoadRect hl) K) Q) := by
  subst ho
  rw [show slotOf f j = (mP.access (pRect j)).read (Elt F) f from funext fun x => (slot_emb f j _ x).symm]
  exact wp_load_rect 𝒱₀ (c : Thread nD τ) none Set.univ (m := mP) (r := pRect j) (S := (pRect j).set) (View.set_slice_whole ..).subset

theorem ld_o (c : Dev nD) (j : Fin 4) (f : S4x256x768.Idx → Elt F .f32) {off : Fin 3 → ℕ} {inb} (ho : off = pOff j)
    {hl : mS.view.LoadsAt (Rect.unit (s := S4x256x768) off S1x256x768.size inb)}
    {α : Type} {Q : α → sProp 𝕄} {K : (S1x256x768.Idx → Elt F .f32) → Prog (TpuEff nD τ sig (Elt F) Λ₀ .tc) α} :
    oS c j f ⊢ iprop((oS c j f -∗ rn c (K (slotOf f j)) Q) -∗ rn c (.op (.load mS (Rect.unit (s := S4x256x768) off S1x256x768.size inb).toLoadRect hl) K) Q) := by
  subst ho
  rw [show slotOf f j = (mS.access (pRect j)).read (Elt F) f from funext fun x => (slot_emb f j _ x).symm]
  exact wp_load_rect 𝒱₀ (c : Thread nD τ) none Set.univ (m := mS) (r := pRect j) (S := (pRect j).set) (View.set_slice_whole ..).subset

theorem ld_r (c : Dev nD) (t : Fin 3) (f : S3x256x768.Idx → Elt F .f32) {off : Fin 3 → ℕ} {inb} (ho : off = pOff t)
    {hl : mR.view.LoadsAt (Rect.unit (s := S3x256x768) off S1x256x768.size inb)}
    {α : Type} {Q : α → sProp 𝕄} {K : (S1x256x768.Idx → Elt F .f32) → Prog (TpuEff nD τ sig (Elt F) Λ₀ .tc) α} :
    rS c t f ⊢ iprop((rS c t f -∗ rn c (K (slotOf f t)) Q) -∗ rn c (.op (.load mR (Rect.unit (s := S3x256x768) off S1x256x768.size inb).toLoadRect hl) K) Q) := by
  subst ho
  rw [show slotOf f t = (mR.access (rRect t)).read (Elt F) f from funext fun x => (slot_emb f t _ x).symm]
  exact wp_load_rect 𝒱₀ (c : Thread nD τ) none Set.univ (m := mR) (r := rRect t) (S := (rRect t).set) (View.set_slice_whole ..).subset

theorem to_p (c : Dev nD) (j : Fin 4) (f g : S4x256x768.Idx → Elt F .f32) {off : Fin 3 → ℕ} {inb} (ho : off = pOff j)
    {u : Vec F S1x256x768 .f32} (hu : slotOf g j = u)
    {hx : (mP.access (Rect.unit (s := S4x256x768) off S1x256x768.size inb)).Stores Finset.univ}
    {hm : (Finset.univ : Finset S1x256x768.Idx) = Finset.univ ∨ ∀ a, (Rect.unit (s := S4x256x768) off S1x256x768.size inb).stride a = 1}
    {α : Type} {Q : α → sProp 𝕄} {K : PUnit → Prog (TpuEff nD τ sig (Elt F) Λ₀ .tc) α} :
    pS c j f ⊢ iprop((pS c j g -∗ rn c (K ⟨⟩) Q) -∗ rn c (.op (.store mP (Rect.unit (s := S4x256x768) off S1x256x768.size inb) u Finset.univ hx hm) K) Q) := by
  subst ho hu
  have e := landed (F := F) (mP.access (pRect j)) c f g (slotOf g j) (fun x => slot_emb g j _ x)
  rw [show (mP.access (pRect j)).set = (pRect j).set from View.set_slice_whole ..] at e
  rw [show (pS c j g : sProp 𝕄) = _ from e.symm]
  exact wp_store 𝒱₀ (c : Thread nD τ) none Set.univ (m := mP) (r := pRect j) (Mk := Finset.univ) (S := (pRect j).set) (View.set_slice_whole ..).subset

theorem to_o (c : Dev nD) (j : Fin 4) (f g : S4x256x768.Idx → Elt F .f32) {off : Fin 3 → ℕ} {inb} (ho : off = pOff j)
    {u : Vec F S1x256x768 .f32} (hu : slotOf g j = u)
    {hx : (mS.access (Rect.unit (s := S4x256x768) off S1x256x768.size inb)).Stores Finset.univ}
    {hm : (Finset.univ : Finset S1x256x768.Idx) = Finset.univ ∨ ∀ a, (Rect.unit (s := S4x256x768) off S1x256x768.size inb).stride a = 1}
    {α : Type} {Q : α → sProp 𝕄} {K : PUnit → Prog (TpuEff nD τ sig (Elt F) Λ₀ .tc) α} :
    oS c j f ⊢ iprop((oS c j g -∗ rn c (K ⟨⟩) Q) -∗ rn c (.op (.store mS (Rect.unit (s := S4x256x768) off S1x256x768.size inb) u Finset.univ hx hm) K) Q) := by
  subst ho hu
  have e := landed (F := F) (mS.access (pRect j)) c f g (slotOf g j) (fun x => slot_emb g j _ x)
  rw [show (mS.access (pRect j)).set = (pRect j).set from View.set_slice_whole ..] at e
  rw [show (oS c j g : sProp 𝕄) = _ from e.symm]
  exact wp_store 𝒱₀ (c : Thread nD τ) none Set.univ (m := mS) (r := pRect j) (Mk := Finset.univ) (S := (pRect j).set) (View.set_slice_whole ..).subset

section Parts
variable (m : (ℓ : Loc nD τ sig) → Buf (Elt F) ℓ) (P : Dev nD → S4x256x768.Idx → Elt F .f32) (c : Dev nD)

/-! ## The transfers round the ring -/

/-- What is still owed in the ring after the first transfer, the second, and so on. -/
abbrev ring1 : List Due := [(sh c 1, 26), (sh c 1, 27), (sh c 1, 31), (sh c 1, 32), (sh c 1, 33)]
abbrev ring2 : List Due := [(sh c 1, 27), (sh c 1, 31), (sh c 1, 32), (sh c 1, 33)]
abbrev ring3 : List Due := [(sh c 1, 31), (sh c 1, 32), (sh c 1, 33)]
abbrev ring4 : List Due := [(sh c 1, 32), (sh c 1, 33)]
abbrev ring5 : List Due := [(sh c 1, 33)]

/-- What a wait needs. -/
abbrev pc (n : ℕ) : sProp 𝕄 := iprop(pos c n ∗ crd c n)

/-- What a transfer of the ring needs, beside the slot it sends: the semaphores' tokens, the means to wait for both, and the
    slot it lands in. -/
abbrev rGo (t : Fin 3) (n₁ n₂ : ℕ) : sProp 𝕄 := iprop((tok c n₁ 0 ∗ tok (sh c 1) n₂ 0) ∗ pos c n₁ ∗ pc c n₂ ∗ ∃ f, rS (sh c 1) t f)
abbrev gGo (s : ℕ) (n₁ n₂ : ℕ) : sProp 𝕄 := iprop((tok c n₁ 0 ∗ tok (sh c 1) n₂ 0) ∗ pos c n₁ ∗ pc c n₂ ∗ ∃ f, oS (sh c 1) (sh c s) f)

theorem go_R (n : Dev nD) (t : Fin 3) (n₁ n₂ s : ℕ) (e₁ : n₁ = 22 + t.val) (e₂ : n₂ = 25 + t.val) (es : s = 4 - t.val) (hn : n = sh c 1)
    {q₁ q₂ : DmaSem sig} (hq₁ : q₁.val = 22 + t) (hq₂ : q₂.val = 25 + t)
    {off off'} {inb inb'} (ho : off = pOff t) (ho' : off' = pOff (sh c (4 - t)))
    {hsc : (show Memref sig (Dev.tc n : Thread nD τ).2.kind .vmem S256x768 .f32 from rV off inb).view.ref.isScScratch = false}
    {hsrc : (pV off' inb').view.WordExact} {hdst : (rV off inb).view.WordExact}
    {hsem : DmaTarget.Typed .vmem (.dma q₂) (.remote (Dev.tc n : Thread nD τ) (rV off inb) (.dma q₁) hsc)} (l : List Due)
    {α : Type} {Q : α → sProp 𝕄} {k : PUnit → Prog (TpuEff nD τ sig (Elt F) Λ₀ .tc) α} :
    iprop(recs m P ∗ owing c ((sh c 1, n₂) :: l) ∗ rGo c t n₁ n₂ ∗ pS c (sh c s) (Acc P c))
      ⊢ iprop(((owing c l ∗ pc c n₁ ∗ pc c n₂) -∗ rn c (k ⟨⟩) Q)
        -∗ rn c (.op (.enqueueDma (pV off' inb') (.remote (Dev.tc n : Thread nD τ) (rV off inb) (.dma q₁) hsc) (.dma q₂) hsrc hdst hsem) k) Q) := by
  subst e₁ e₂ es
  iintro ⟨#HR, HO, ⟨⟨Ht, Ht'⟩, Hp, Hw, Hd⟩, Hs⟩ Hk
  iapply (send_R m P c n t hn hq₁ hq₂ ho ho' l) $$ [HO Ht Ht' Hs Hd]
  · isplitr; · iexact HR
    isplitl [HO]; · iexact HO
    isplitl [Ht]; · iexact Ht
    isplitl [Ht']; · iexact Ht'
    isplitl [Hs]; · iexact Hs
    iexact Hd
  iintro ⟨HO, Hc⟩
  iapply Hk
  isplitl [HO]; · iexact HO
  isplitr [Hw]; swap; · iexact Hw
  isplitl [Hp]; · iexact Hp
  iexact Hc

theorem go_G (n : Dev nD) (t : Fin 3) (n₁ n₂ s : ℕ) (e₁ : n₁ = 28 + t.val) (e₂ : n₂ = 31 + t.val) (es : s = 5 - t.val) (hn : n = sh c 1)
    {q₁ q₂ : DmaSem sig} (hq₁ : q₁.val = 28 + t) (hq₂ : q₂.val = 31 + t)
    {off off'} {inb inb'} (ho : off = pOff (sh c (5 - t))) (ho' : off' = pOff (sh c (5 - t)))
    {hsc : (show Memref sig (Dev.tc n : Thread nD τ).2.kind .vmem S256x768 .f32 from oV off inb).view.ref.isScScratch = false}
    {hsrc : (oV off' inb').view.WordExact} {hdst : (oV off inb).view.WordExact}
    {hsem : DmaTarget.Typed .vmem (.dma q₂) (.remote (Dev.tc n : Thread nD τ) (oV off inb) (.dma q₁) hsc)} (l : List Due)
    {α : Type} {Q : α → sProp 𝕄} {k : PUnit → Prog (TpuEff nD τ sig (Elt F) Λ₀ .tc) α} :
    iprop(recs m P ∗ owing c ((sh c 1, n₂) :: l) ∗ gGo c s n₁ n₂ ∗ oS c (sh c s) (Of P))
      ⊢ iprop(((owing c l ∗ pc c n₁ ∗ pc c n₂) -∗ rn c (k ⟨⟩) Q)
        -∗ rn c (.op (.enqueueDma (oV off' inb') (.remote (Dev.tc n : Thread nD τ) (oV off inb) (.dma q₁) hsc) (.dma q₂) hsrc hdst hsem) k) Q) := by
  subst e₁ e₂ es
  iintro ⟨#HR, HO, ⟨⟨Ht, Ht'⟩, Hp, Hw, Hd⟩, Hs⟩ Hk
  iapply (send_G m P c n t hn hq₁ hq₂ ho ho' l) $$ [HO Ht Ht' Hs Hd]
  · isplitr; · iexact HR
    isplitl [HO]; · iexact HO
    isplitl [Ht]; · iexact Ht
    isplitl [Ht']; · iexact Ht'
    isplitl [Hs]; · iexact Hs
    iexact Hd
  iintro ⟨HO, Hc⟩
  iapply Hk
  isplitl [HO]; · iexact HO
  isplitr [Hw]; swap; · iexact Hw
  isplitl [Hp]; · iexact Hp
  iexact Hc

/-- The wait for a transfer of the ring. -/
theorem wtR (n : ℕ) {q : DmaSem sig} (hq : q.val = n) (hn : 22 ≤ n ∧ n < 34) (hd : dut n = {0}) (l : List Due)
    (hl : (l.map Prod.snd).all (fun x => decide (x ≤ 34 ∧ lvl n < lvl x)) = true)
    {X : sProp 𝕄} (hX : pay m P c n 0 = X)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = NR)
    {α : Type} {Q : α → sProp 𝕄} {k : PUnit → Prog (TpuEff nD τ sig (Elt F) Λ₀ .tc) α} :
    iprop(recs m P ∗ owing c l ∗ pc c n)
      ⊢ iprop(((owing c l ∗ zer c n ∗ X) -∗ rn c (k ⟨⟩) Q) -∗ rn c (.op (.waitDma2 q src dst hsrc hdst) k) Q) := by
  subst hX
  exact st_wait m P c n hq (by omega) hd (hN.trans (amtR n hn.2 hn.1)) l hl

/-! ## The reduction -/

/-- One addition: what was held of the slot plus what arrived. -/
theorem add_slot (t : ℕ) (t' : Fin 3) (s : ℕ) (e : t = t'.val) (es : s = 3 - t) :
    slotOf (Acc P c) (sh c s) = k0_pay54 (k0_pay53 (slotOf (P c) (sh c s)) (slotOf (RS P c) t')) := by
  subst e es
  have ht := t'.isLt
  have h := Acc_slot P c (t'.val + 1) (by omega)
  rw [show 4 - (t'.val + 1) = 3 - t'.val by omega] at h
  rw [h]
  unfold RS
  rw [slotOf_ofSlots]
  rfl

theorem part25_ok (v2 v13 : BitVec 32) (a : FVec F S512x768 .f32) (b : FVec F S256x768 .f32)
    (h2 : slotOf (P c) 2 = k0_pay51 b) (h3 : slotOf (P c) 3 = k0_pay52 a)
    {α : Type} {Q : α → sProp 𝕄} {K : PUnit → Prog (TpuEff nD τ sig (Elt F) Λ₀ .tc) α} :
    iprop(recs m P ∗ owing c (ring c) ∗ fl c mP (P c) (pUp 2) ∗ rGo c 0 22 25)
      ⊢ iprop(((owing c (ring1 c) ∗ pc c 22 ∗ pc c 25 ∗ pS c (sh c 1) (P c) ∗ pS c (sh c 2) (P c) ∗ pS c (sh c 3) (P c)) -∗ rn c (K ⟨⟩) Q)
        -∗ rn c (app (k0_part25 (F := F)) c v2 v13 a b >>= K) Q) := by
  simp only [k0_part25_eq_skeleton]; unfold app rn k0_part25_skel
  simp only [Prog.lift, Prog.bind_op, Prog.bind_ret, Prog.pure_eq_ret]
  iintro ⟨#HR, HO, Hp, Hg⟩ Hk
  iapply (p_put c (P c) 2 2 3 rfl rfl rfl h2) $$ Hp; iintro Hp
  iapply (p_put c (P c) 3 3 4 rfl rfl rfl h3) $$ Hp; iintro Hp
  ihave Hp := (fl_done c mP (P c) (pUp 4) (fun i => (i 0).isLt)) $$ Hp
  ihave Hp := (Entails.of_eq (pS_join c c (P c)).symm) $$ Hp
  icases Hp with ⟨H0, H1, H2, H3⟩
  ihave H0 := (show pS c (sh c 0) (P c) ⊢ pS c (sh c 4) (Acc P c) from Entails.of_eq (by
    have h := Acc_slot P c 0 (by decide)
    rw [sh_four] at h
    rw [sh_zero, sh_four]
    exact pS_congr c c _ _ h.symm)) $$ H0
  iapply (go_R m P c _ 0 22 25 4 rfl rfl rfl (dev10_eq c) rfl rfl rfl (off4_eq0 c) (ring1 c)) $$ [HO Hg H0]
  · isplitr; · iexact HR
    isplitl [HO]; · iexact HO
    isplitl [Hg]; · iexact Hg
    iexact H0
  iintro ⟨HO, Ha, Hb⟩
  iapply Hk
  isplitl [HO]; · iexact HO
  isplitl [Ha]; · iexact Ha
  isplitl [Hb]; · iexact Hb
  isplitl [H1]; · iexact H1
  isplitl [H2]; · iexact H2
  iexact H3

theorem part26_ok (v2 v13 : BitVec 32)
    {α : Type} {Q : α → sProp 𝕄} {K : FVec F S256x768 .f32 → Prog (TpuEff nD τ sig (Elt F) Λ₀ .tc) α} :
    iprop(recs m P ∗ owing c (ring1 c) ∗ pc c 22 ∗ pc c 25 ∗ pS c (sh c 3) (P c))
      ⊢ iprop(((owing c (ring1 c) ∗ (zer c 22 ∗ pS c (sh c 4) (Acc P c)) ∗ (zer c 25 ∗ rS c 0 (RS P c)) ∗ pS c (sh c 3) (P c))
          -∗ rn c (K (k0_pay53 (slotOf (P c) (sh c 3)) (slotOf (RS P c) 0))) Q)
        -∗ rn c (app (k0_part26 (F := F)) c v2 v13 >>= K) Q) := by
  simp only [k0_part26_eq_skeleton]; unfold app rn k0_part26_skel
  simp only [Prog.lift, Prog.bind_op, Prog.bind_ret, Prog.pure_eq_ret]
  iintro ⟨#HR, HO, Ha, Hb, Hp⟩ Hk
  iapply (wtR m P c 22 rfl (by decide) rfl (ring1 c) rfl (pay_rsend m P c 0) (pV_amt _ _)) $$ [HO Ha]
  · isplitr; · iexact HR
    isplitl [HO]; · iexact HO
    iexact Ha
  iintro ⟨HO, Hz, Hs⟩
  iapply (wtR m P c 25 rfl (by decide) rfl (ring1 c) rfl (pay_rrecv m P c 0) (rV_amt _ _)) $$ [HO Hb]
  · isplitr; · iexact HR
    isplitl [HO]; · iexact HO
    iexact Hb
  iintro ⟨HO, Hz', Hr⟩
  iapply (ld_p c (sh c 3) (P c) (off5_eq0 c)) $$ Hp; iintro Hp
  iapply (ld_r c 0 (RS P c) rfl) $$ Hr; iintro Hr
  iapply (ld_p c (sh c 3) (P c) (off5_eq0 c)) $$ Hp; iintro Hp
  iapply Hk
  isplitl [HO]; · iexact HO
  isplitl [Hz Hs]
  · isplitl [Hz]; · iexact Hz
    iexact Hs
  isplitl [Hz' Hr]
  · isplitl [Hz']; · iexact Hz'
    iexact Hr
  iexact Hp

theorem part27_ok (v2 v13 : BitVec 32)
    {α : Type} {Q : α → sProp 𝕄} {K : BitVec 32 → Prog (TpuEff nD τ sig (Elt F) Λ₀ .tc) α} :
    iprop(recs m P ∗ owing c (ring1 c) ∗ rGo c 1 23 26 ∗ pS c (sh c 3) (P c))
      ⊢ iprop((∀ w, (owing c (ring2 c) ∗ (zer c 23 ∗ pS c (sh c 3) (Acc P c)) ∗ pc c 26) -∗ rn c (K w) Q)
        -∗ rn c (app (k0_part27 (F := F)) c v2 v13 (k0_pay53 (slotOf (P c) (sh c 3)) (slotOf (RS P c) 0)) >>= K) Q) := by
  simp only [k0_part27_eq_skeleton]; unfold app rn k0_part27_skel
  simp only [Prog.lift, Prog.bind_op, Prog.bind_ret, Prog.pure_eq_ret]
  iintro ⟨#HR, HO, Hg, Hp⟩ Hk
  iapply (to_p c (sh c 3) (P c) (Acc P c) (off5_eq0 c) (add_slot P c 0 0 3 rfl rfl)) $$ Hp; iintro Hp
  iapply (go_R m P c _ 1 23 26 3 rfl rfl rfl (dev11_eq c) rfl rfl rfl (off4_eq1 c) (ring2 c)) $$ [HO Hg Hp]
  · isplitr; · iexact HR
    isplitl [HO]; · iexact HO
    isplitl [Hg]; · iexact Hg
    iexact Hp
  iintro ⟨HO, Ha, Hb⟩
  iapply (wtR m P c 23 rfl (by decide) rfl (ring2 c) rfl (pay_rsend m P c 1) (pV_amt _ _)) $$ [HO Ha]
  · isplitr; · iexact HR
    isplitl [HO]; · iexact HO
    iexact Ha
  iintro ⟨HO, Hz, Hs⟩
  iapply Hk
  isplitl [HO]; · iexact HO
  isplitl [Hz Hs]
  · isplitl [Hz]; · iexact Hz
    iexact Hs
  iexact Hb

theorem part28_ok (v2 v820 : BitVec 32)
    {α : Type} {Q : α → sProp 𝕄} {K : (Σ' (_ : BitVec 32) (_ : BitVec 32), BitVec 32) → Prog (TpuEff nD τ sig (Elt F) Λ₀ .tc) α} :
    iprop(recs m P ∗ owing c (ring2 c) ∗ pc c 26 ∗ pS c (sh c 2) (P c))
      ⊢ iprop((∀ w w' w'', (owing c (ring2 c) ∗ (zer c 26 ∗ rS c 1 (RS P c)) ∗ pS c (sh c 2) (Acc P c)) -∗ rn c (K ⟨w, w', w''⟩) Q)
        -∗ rn c (app (k0_part28 (F := F)) c v2 v820 >>= K) Q) := by
  simp only [k0_part28_eq_skeleton]; unfold app rn k0_part28_skel
  simp only [Prog.lift, Prog.bind_op, Prog.bind_ret, Prog.pure_eq_ret]
  iintro ⟨#HR, HO, Hb, Hp⟩ Hk
  iapply (wtR m P c 26 rfl (by decide) rfl (ring2 c) rfl (pay_rrecv m P c 1) (rV_amt _ _)) $$ [HO Hb]
  · isplitr; · iexact HR
    isplitl [HO]; · iexact HO
    iexact Hb
  iintro ⟨HO, Hz, Hr⟩
  iapply (ld_p c (sh c 2) (P c) (off5_eq1 c)) $$ Hp; iintro Hp
  iapply (ld_r c 1 (RS P c) rfl) $$ Hr; iintro Hr
  iapply (ld_p c (sh c 2) (P c) (off5_eq1 c)) $$ Hp; iintro Hp
  iapply (to_p c (sh c 2) (P c) (Acc P c) (off5_eq1 c) (add_slot P c 1 1 2 rfl rfl)) $$ Hp; iintro Hp
  iapply Hk
  isplitl [HO]; · iexact HO
  isplitl [Hz Hr]
  · isplitl [Hz]; · iexact Hz
    iexact Hr
  iexact Hp

theorem part29_ok (v13 v852 v853 v : BitVec 32)
    {α : Type} {Q : α → sProp 𝕄} {K : PUnit → Prog (TpuEff nD τ sig (Elt F) Λ₀ .tc) α} :
    iprop(recs m P ∗ owing c (ring2 c) ∗ rGo c 2 24 27 ∗ pS c (sh c 2) (Acc P c))
      ⊢ iprop(((owing c (ring3 c) ∗ (zer c 24 ∗ pS c (sh c 2) (Acc P c)) ∗ pc c 27) -∗ rn c (K ⟨⟩) Q)
        -∗ rn c (app (k0_part29 (F := F)) c v13 v852 v853 v >>= K) Q) := by
  simp only [k0_part29_eq_skeleton]; unfold app rn k0_part29_skel
  simp only [Prog.lift, Prog.bind_op, Prog.bind_ret, Prog.pure_eq_ret]
  iintro ⟨#HR, HO, Hg, Hp⟩ Hk
  iapply (go_R m P c _ 2 24 27 2 rfl rfl rfl (dev12_eq c) rfl rfl rfl (off4_eq2 c) (ring3 c)) $$ [HO Hg Hp]
  · isplitr; · iexact HR
    isplitl [HO]; · iexact HO
    isplitl [Hg]; · iexact Hg
    iexact Hp
  iintro ⟨HO, Ha, Hb⟩
  iapply (wtR m P c 24 rfl (by decide) rfl (ring3 c) rfl (pay_rsend m P c 2) (pV_amt _ _)) $$ [HO Ha]
  · isplitr; · iexact HR
    isplitl [HO]; · iexact HO
    iexact Ha
  iintro ⟨HO, Hz, Hs⟩
  iapply Hk
  isplitl [HO]; · iexact HO
  isplitl [Hz Hs]
  · isplitl [Hz]; · iexact Hz
    iexact Hs
  iexact Hb

theorem part30_ok (v2 : BitVec 32)
    {α : Type} {Q : α → sProp 𝕄} {K : BitVec 32 → Prog (TpuEff nD τ sig (Elt F) Λ₀ .tc) α} :
    iprop(recs m P ∗ owing c (ring3 c) ∗ pc c 27 ∗ pS c (sh c 1) (P c))
      ⊢ iprop((∀ w, (owing c (ring3 c) ∗ (zer c 27 ∗ rS c 2 (RS P c)) ∗ pS c (sh c 1) (Acc P c)) -∗ rn c (K w) Q)
        -∗ rn c (app (k0_part30 (F := F)) c v2 >>= K) Q) := by
  simp only [k0_part30_eq_skeleton]; unfold app rn k0_part30_skel
  simp only [Prog.lift, Prog.bind_op, Prog.bind_ret, Prog.pure_eq_ret]
  iintro ⟨#HR, HO, Hb, Hp⟩ Hk
  iapply (wtR m P c 27 rfl (by decide) rfl (ring3 c) rfl (pay_rrecv m P c 2) (rV_amt _ _)) $$ [HO Hb]
  · isplitr; · iexact HR
    isplitl [HO]; · iexact HO
    iexact Hb
  iintro ⟨HO, Hz, Hr⟩
  iapply (ld_p c (sh c 1) (P c) (off5_eq2 c)) $$ Hp; iintro Hp
  iapply (ld_r c 2 (RS P c) rfl) $$ Hr; iintro Hr
  iapply (ld_p c (sh c 1) (P c) (off5_eq2 c)) $$ Hp; iintro Hp
  iapply (to_p c (sh c 1) (P c) (Acc P c) (off5_eq2 c) (add_slot P c 2 2 1 rfl rfl)) $$ Hp; iintro Hp
  iapply Hk
  isplitl [HO]; · iexact HO
  isplitl [Hz Hr]
  · isplitl [Hz]; · iexact Hz
    iexact Hr
  iexact Hp

/-! ## The finished slots travel on -/

theorem cast_back (v : Vec F S1x256x768 .f32) : k0_pay57 v = v := by
  unfold k0_pay57; exact shapeCast_shapeCast _ _ _

/-- The slot a device finishes. -/
theorem Of_own : slotOf (Of P) (sh c 1) = slotOf (Acc P c) (sh c 1) := by
  have h := Acc_slot P c 3 (by decide)
  rw [h]
  unfold Of
  rw [slotOf_ofSlots, sh_back c 1 (by decide)]

theorem part31_ok (v2 v13 v917 : BitVec 32)
    {α : Type} {Q : α → sProp 𝕄} {K : PUnit → Prog (TpuEff nD τ sig (Elt F) Λ₀ .tc) α} :
    iprop(recs m P ∗ owing c (ring3 c) ∗ pS c (sh c 1) (Acc P c) ∗ (∃ f, oS c (sh c 1) f) ∗ gGo c 5 28 31)
      ⊢ iprop(((owing c (ring4 c) ∗ pS c (sh c 1) (Acc P c) ∗ pc c 28 ∗ pc c 31) -∗ rn c (K ⟨⟩) Q)
        -∗ rn c (app (k0_part31 (F := F)) c v2 v13 v917 >>= K) Q) := by
  simp only [k0_part31_eq_skeleton]; unfold app rn k0_part31_skel
  simp only [Prog.lift, Prog.bind_op, Prog.bind_ret, Prog.pure_eq_ret]
  iintro ⟨#HR, HO, Hp, ⟨%f, Ho⟩, Hg⟩ Hk
  iapply (ld_p c (sh c 1) (Acc P c) (off6_eq c)) $$ Hp; iintro Hp
  iapply (ld_o c (sh c 1) f (off6_eq c)) $$ Ho; iintro Ho
  iapply (to_o c (sh c 1) f (Of P) (off6_eq c) ((Of_own P c).trans (cast_back _).symm)) $$ Ho; iintro Ho
  ihave Ho := (show oS c (sh c 1) (Of P) ⊢ oS c (sh c 5) (Of P) from Entails.of_eq (by rw [show sh c 5 = sh c 1 from sh_mod c 5 1 rfl])) $$ Ho
  iapply (go_G m P c _ 0 28 31 5 rfl rfl rfl (dev13_eq c) rfl rfl (off7_eq0 c) (off7_eq0 c) (ring4 c)) $$ [HO Hg Ho]
  · isplitr; · iexact HR
    isplitl [HO]; · iexact HO
    isplitl [Hg]; · iexact Hg
    iexact Ho
  iintro ⟨HO, Ha, Hb⟩
  iapply Hk
  isplitl [HO]; · iexact HO
  isplitl [Hp]; · iexact Hp
  isplitl [Ha]; · iexact Ha
  iexact Hb

theorem part32_ok (v2 v13 : BitVec 32)
    {α : Type} {Q : α → sProp 𝕄} {K : PUnit → Prog (TpuEff nD τ sig (Elt F) Λ₀ .tc) α} :
    iprop(recs m P ∗ owing c (ring4 c) ∗ pc c 28 ∗ pc c 31 ∗ gGo c 4 29 32)
      ⊢ iprop(((owing c (ring5 c) ∗ (zer c 28 ∗ oS c (sh c 5) (Of P)) ∗ zer c 31 ∗ pc c 29 ∗ pc c 32) -∗ rn c (K ⟨⟩) Q)
        -∗ rn c (app (k0_part32 (F := F)) c v2 v13 >>= K) Q) := by
  simp only [k0_part32_eq_skeleton]; unfold app rn k0_part32_skel
  simp only [Prog.lift, Prog.bind_op, Prog.bind_ret, Prog.pure_eq_ret]
  iintro ⟨#HR, HO, Ha, Hb, Hg⟩ Hk
  iapply (wtR m P c 28 rfl (by decide) rfl (ring4 c) rfl (pay_gsend m P c 0) (oV_amt _ _)) $$ [HO Ha]
  · isplitr; · iexact HR
    isplitl [HO]; · iexact HO
    iexact Ha
  iintro ⟨HO, Hz, Hs⟩
  iapply (wtR m P c 31 rfl (by decide) rfl (ring4 c) rfl (pay_grecv m P c 0) (oV_amt _ _)) $$ [HO Hb]
  · isplitr; · iexact HR
    isplitl [HO]; · iexact HO
    iexact Hb
  iintro ⟨HO, Hz', Ho⟩
  iapply (go_G m P c _ 1 29 32 4 rfl rfl rfl (dev14_eq c) rfl rfl (off7_eq1 c) (off7_eq1 c) (ring5 c)) $$ [HO Hg Ho]
  · isplitr; · iexact HR
    isplitl [HO]; · iexact HO
    isplitl [Hg]; · iexact Hg
    iexact Ho
  iintro ⟨HO, Ha, Hb⟩
  iapply Hk
  isplitl [HO]; · iexact HO
  isplitl [Hz Hs]
  · isplitl [Hz]; · iexact Hz
    iexact Hs
  isplitl [Hz']; · iexact Hz'
  isplitl [Ha]; · iexact Ha
  iexact Hb

theorem part33_ok (v2 v13 : BitVec 32)
    {α : Type} {Q : α → sProp 𝕄} {K : PUnit → Prog (TpuEff nD τ sig (Elt F) Λ₀ .tc) α} :
    iprop(recs m P ∗ owing c (ring5 c) ∗ pc c 29 ∗ pc c 32)
      ⊢ iprop(((owing c (ring5 c) ∗ (zer c 29 ∗ oS c (sh c 4) (Of P)) ∗ (zer c 32 ∗ oS c (sh c 3) (Of P))) -∗ rn c (K ⟨⟩) Q)
        -∗ rn c (app (k0_part33 (F := F)) c v2 v13 >>= K) Q) := by
  simp only [k0_part33_eq_skeleton]; unfold app rn k0_part33_skel
  simp only [Prog.lift, Prog.bind_op, Prog.bind_ret, Prog.pure_eq_ret]
  iintro ⟨#HR, HO, Ha, Hb⟩ Hk
  iapply (wtR m P c 29 rfl (by decide) rfl (ring5 c) rfl (pay_gsend m P c 1) (oV_amt _ _)) $$ [HO Ha]
  · isplitr; · iexact HR
    isplitl [HO]; · iexact HO
    iexact Ha
  iintro ⟨HO, H⟩
  iapply (wtR m P c 32 rfl (by decide) rfl (ring5 c) rfl (pay_grecv m P c 1) (oV_amt _ _)) $$ [HO Hb]
  · isplitr; · iexact HR
    isplitl [HO]; · iexact HO
    iexact Hb
  iintro ⟨HO, H'⟩
  iapply Hk
  isplitl [HO]; · iexact HO
  isplitl [H]; · iexact H
  iexact H'

/-! ## The result -/

/-- The first `n` pieces of the result. -/
abbrev oUp (n : ℕ) : S2x512x768.Idx → Prop := fun i => 2 * (i 0).val + (i 1).val / 256 < n

/-- Storing a slot of the sum at its place in the result. -/
theorem o_st (C : S4x256x768.Idx → Elt F .f32) (b s : Fin 2) (j : Fin 4) (n n' : ℕ) (hj : j.val = 2 * b.val + s.val) (hn : n = 2 * b.val + s.val) (hn' : n' = 2 * b.val + s.val + 1)
    {off : Fin 3 → ℕ} {inb} (ho : off = ![b.val, 256 * s.val, 0]) {u : Vec F S1x256x768 .f32} (hu : slotOf C j = u)
    {hx : (mO.access (Rect.unit (s := S2x512x768) off S1x256x768.size inb)).Stores Finset.univ}
    {hm : (Finset.univ : Finset S1x256x768.Idx) = Finset.univ ∨ ∀ a, (Rect.unit (s := S2x512x768) off S1x256x768.size inb).stride a = 1}
    {α : Type} {Q : α → sProp 𝕄} {K : PUnit → Prog (TpuEff nD τ sig (Elt F) Λ₀ .tc) α} :
    (fl c mO (Oof C) (oUp n) : sProp 𝕄)
      ⊢ iprop((fl c mO (Oof C) (oUp n') -∗ rn c (K ⟨⟩) Q)
        -∗ rn c (.op (.store mO (Rect.unit (s := S2x512x768) off S1x256x768.size inb) u Finset.univ hx hm) K) Q) := by
  subst ho hn hn'
  iintro Hc HK
  iapply (fl_store c mO (r := outR b s) (Oof C) (oUp (2 * b.val + s.val)) (oUp (2 * b.val + s.val + 1)) (fun i hi => ?_) (fun y => ?_)) $$ Hc
  · have h1 : (i 1).val < 512 := (i 1).isLt
    have h2 : (i 2).val < 768 := (i 2).isLt
    have hs : s.val < 2 := s.isLt
    have hi' : 2 * (i 0).val + (i 1).val / 256 < 2 * b.val + s.val + 1 := hi
    rcases Nat.lt_or_ge (2 * (i 0).val + (i 1).val / 256) (2 * b.val + s.val) with hlt | hge
    · exact Or.inl hlt
    · refine Or.inr ?_
      rw [show (mO.access (outR b s)).set = (outR b s).set from View.set_slice_whole .., Rect.mem_set_unit]
      intro a
      match a with
      | 0 => exact ⟨(show b.val ≤ (i 0).val by omega), (show (i 0).val < b.val + 1 by omega)⟩
      | 1 => exact ⟨(show 256 * s.val ≤ (i 1).val by omega), (show (i 1).val < 256 * s.val + 256 by omega)⟩
      | 2 => exact ⟨Nat.zero_le _, (show (i 2).val < 0 + 768 by omega)⟩
  · rw [← hu]; exact Oof_emb C b s j hj y
  iintro Hc
  iapply HK
  iexact Hc

/-- Storing a piece of the result. -/
theorem o_put (C : S4x256x768.Idx → Elt F .f32) (b s : Fin 2) (j : Fin 4) (n n' : ℕ) (hj : j.val = 2 * b.val + s.val) (hn : n = 2 * b.val + s.val) (hn' : n' = 2 * b.val + s.val + 1)
    {off : Fin 3 → ℕ} {inb} (ho : off = ![b.val, 256 * s.val, 0]) {u : Vec F S1x256x768 .f32} (hu : slotOf C j = u)
    {hl : mO.view.LoadsAt (Rect.unit (s := S2x512x768) off S1x256x768.size inb)}
    {hx : (mO.access (Rect.unit (s := S2x512x768) off S1x256x768.size inb)).Stores Finset.univ}
    {hm : (Finset.univ : Finset S1x256x768.Idx) = Finset.univ ∨ ∀ a, (Rect.unit (s := S2x512x768) off S1x256x768.size inb).stride a = 1}
    {α : Type} {Q : α → sProp 𝕄} {K : PUnit → Prog (TpuEff nD τ sig (Elt F) Λ₀ .tc) α} :
    (fl c mO (Oof C) (oUp n) : sProp 𝕄)
      ⊢ iprop((fl c mO (Oof C) (oUp n') -∗ rn c (K ⟨⟩) Q)
        -∗ rn c (.op (.load mO (Rect.unit (s := S2x512x768) off S1x256x768.size inb).toLoadRect hl) fun _ =>
            .op (.store mO (Rect.unit (s := S2x512x768) off S1x256x768.size inb) u Finset.univ hx hm) K) Q) := by
  iintro Hc HK
  iapply (fl_load c mO (Oof C) (oUp n)) $$ Hc; iintro Hc
  iapply (o_st c C b s j n n' hj hn hn' ho hu) $$ Hc
  iexact HK

/-- Reading a slot of the sum, held whole. -/
theorem ld_s (f : S4x256x768.Idx → Elt F .f32) (j : Fin 4) {off : Fin 3 → ℕ} {inb} (ho : off = pOff j)
    {hl : mS.view.LoadsAt (Rect.unit (s := S4x256x768) off S1x256x768.size inb)}
    {α : Type} {Q : α → sProp 𝕄} {K : (S1x256x768.Idx → Elt F .f32) → Prog (TpuEff nD τ sig (Elt F) Λ₀ .tc) α} :
    own c mS f ⊢ iprop((own c mS f -∗ rn c (K (slotOf f j)) Q) -∗ rn c (.op (.load mS (Rect.unit (s := S4x256x768) off S1x256x768.size inb).toLoadRect hl) K) Q) := by
  subst ho
  rw [show slotOf f j = mS.view.readAt (Elt F) (pRect j).toLoadRect f from funext fun x => (slot_emb f j _ x).symm]
  exact st_load c mS f

theorem part34_ok (v13 : BitVec 32)
    {α : Type} {Q : α → sProp 𝕄} {K : FVec F S256x768 .f32 → Prog (TpuEff nD τ sig (Elt F) Λ₀ .tc) α} :
    iprop(recs m P ∗ owing c (ring5 c) ∗ oS c (sh c 5) (Of P) ∗ oS c (sh c 4) (Of P) ∗ oS c (sh c 3) (Of P) ∗ gGo c 3 30 33 ∗ fl c mO (Oof (Of P)) (oUp 0))
      ⊢ iprop(((owing c [] ∗ zer c 30 ∗ zer c 33 ∗ own c mS (Of P) ∗ fl c mO (Oof (Of P)) (oUp 1)) -∗ rn c (K (k0_pay59 (slotOf (Of P) 1))) Q)
        -∗ rn c (app (k0_part34 (F := F)) c v13 >>= K) Q) := by
  simp only [k0_part34_eq_skeleton]; unfold app rn k0_part34_skel
  simp only [Prog.lift, Prog.bind_op, Prog.bind_ret, Prog.pure_eq_ret]
  iintro ⟨#HR, HO, H5, H4, H3, Hg, Hf⟩ Hk
  iapply (go_G m P c _ 2 30 33 3 rfl rfl rfl (dev15_eq c) rfl rfl (off7_eq2 c) (off7_eq2 c) []) $$ [HO Hg H3]
  · isplitr; · iexact HR
    isplitl [HO]; · iexact HO
    isplitl [Hg]; · iexact Hg
    iexact H3
  iintro ⟨HO, Ha, Hb⟩
  iapply (wtR m P c 30 rfl (by decide) rfl [] rfl (pay_gsend m P c 2) (oV_amt _ _)) $$ [HO Ha]
  · isplitr; · iexact HR
    isplitl [HO]; · iexact HO
    iexact Ha
  iintro ⟨HO, Hz, H3⟩
  iapply (wtR m P c 33 rfl (by decide) rfl [] rfl (pay_grecv m P c 2) (oV_amt _ _)) $$ [HO Hb]
  · isplitr; · iexact HR
    isplitl [HO]; · iexact HO
    iexact Hb
  iintro ⟨HO, Hz', H2⟩
  ihave H := (show iprop(oS c (sh c 5) (Of P) ∗ oS c (sh c 4) (Of P) ∗ oS c (sh c 3) (Of P) ∗ oS c (sh c 2) (Of P)) ⊢ own c mS (Of P) from by
    rw [← oS_join c c, show sh c 5 = sh c 1 from sh_mod c 5 1 rfl, sh_zero, sh_four]
    iintro ⟨H1, H0, H3, H2⟩
    isplitl [H0]; · iexact H0
    isplitl [H1]; · iexact H1
    isplitl [H2]; · iexact H2
    iexact H3) $$ [H5 H4 H3 H2]
  · isplitl [H5]; · iexact H5
    isplitl [H4]; · iexact H4
    isplitl [H3]; · iexact H3
    iexact H2
  iapply (ld_s c (Of P) 0 rfl) $$ H; iintro H
  iapply (o_put c (Of P) 0 0 0 0 1 rfl rfl rfl rfl (cast_back _).symm) $$ Hf; iintro Hf
  iapply (ld_s c (Of P) 1 rfl) $$ H; iintro H
  iapply Hk
  isplitl [HO]; · iexact HO
  isplitl [Hz]; · iexact Hz
  isplitl [Hz']; · iexact Hz'
  isplitl [H]; · iexact H
  iexact Hf

end Parts

end Cert.KernelIdealProof

end
-- ==== Proof.BodyE.lean ====
/-
# `BodyE`: the body of the kernel

What a device has when it starts, and what it has when it is done; the parts run one after the other.
-/
module

public import proofs.«01_k».proof.Proof.BodyD

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device starts with -/

/-- For the barrier: the others' tokens, and the means to wait. -/
def barr (c : Dev nD) : sProp 𝕄 :=
  iprop((tok (sh c 1) 34 1 ∗ tok (sh c 2) 34 2 ∗ tok (sh c 3) 34 3) ∗ pos c 34 ∗ cred (tallyAt (cell c 34) () 3))
/-- For a copy of its own. -/
abbrev cpy (c : Dev nD) (n : ℕ) : sProp 𝕄 := iprop(tok c n 0 ∗ pos c n)
/-- For a transfer of the ring. -/
abbrev rr (c : Dev nD) (n₁ n₂ : ℕ) : sProp 𝕄 := iprop((tok c n₁ 0 ∗ tok (sh c 1) n₂ 0) ∗ pos c n₁ ∗ pc c n₂)

/-- All of it: the barrier, the own copies, the semaphores never used, the keys and values, the ring. -/
def ghost (c : Dev nD) : sProp 𝕄 :=
  iprop(barr c ∗ cpy c 4 ∗ cpy c 5 ∗ (pos c 6 ∗ pos c 10 ∗ pos c 14 ∗ pos c 18)
    ∗ (gh c (sh c 1) 7 11 ∗ gh c (sh c 1) 15 19 ∗ gh c (sh c 2) 8 12 ∗ gh c (sh c 2) 16 20 ∗ gh c (sh c 3) 9 13 ∗ gh c (sh c 3) 17 21)
    ∗ (rr c 22 25 ∗ rr c 23 26 ∗ rr c 24 27) ∗ rr c 28 31 ∗ rr c 29 32 ∗ rr c 30 33)

/-- The kernel's own buffers, whatever they hold. -/
def bufs (c : Dev nD) : sProp 𝕄 :=
  iprop((∃ f, own c mK f) ∗ (∃ f, own c mV f) ∗ (∃ f, own c mQ f) ∗ (∃ f, own c mC f) ∗ (∃ f, own c mP f) ∗ (∃ f, own c mR f) ∗ (∃ f, own c mS f))

/-- All semaphores at zero. -/
def zeros (c : Dev nD) : sProp 𝕄 :=
  iprop((zer c 4 ∗ zer c 5) ∗ (zer c 6 ∗ zer c 7 ∗ zer c 8 ∗ zer c 9) ∗ (zer c 10 ∗ zer c 11 ∗ zer c 12 ∗ zer c 13)
    ∗ (zer c 14 ∗ zer c 15 ∗ zer c 16 ∗ zer c 17) ∗ (zer c 18 ∗ zer c 19 ∗ zer c 20 ∗ zer c 21)
    ∗ (zer c 22 ∗ zer c 23 ∗ zer c 24) ∗ (zer c 25 ∗ zer c 26 ∗ zer c 27) ∗ (zer c 28 ∗ zer c 29 ∗ zer c 30) ∗ (zer c 31 ∗ zer c 32 ∗ zer c 33)
    ∗ zer c 34)

/-- The device's arguments. -/
abbrev keys (m : (ℓ : Loc nD τ sig) → Buf (Elt F) ℓ) (c : Dev nD) : sProp 𝕄 := ((c : Thread nD τ).loc main_arg2) ↦{fullShare} aK m c
abbrev vals (m : (ℓ : Loc nD τ sig) → Buf (Elt F) ℓ) (c : Dev nD) : sProp 𝕄 := ((c : Thread nD τ).loc main_arg3) ↦{fullShare} aV m c

section Hand
variable (m : (ℓ : Loc nD τ sig) → Buf (Elt F) ℓ) (P : Dev nD → S4x256x768.Idx → Elt F .f32) (c : Dev nD)

/-- The three slots of the arrivals. -/
theorem rS_join (f : S3x256x768.Idx → Elt F .f32) : iprop(rS c 0 f ∗ rS c 1 f ∗ rS c 2 f) = own c mR f := by
  have e : (own c mR f : sProp 𝕄) = bigSep Finset.univ fun t : Fin 3 => rS c t f := by
    have h := pointsTo_biUnion (Ix := Unit) (Val := Elt F) (Name := ℕ) (U := UU) (Lvl := ℕ) (ℓ := (c : Thread nD τ).loc cc0_scratch5) (q := fullShare) (f := f) Finset.univ (fun t : Fin 3 => (rRect t).set)
      (fibres_disjoint (X := S3x256x768.Idx) (fun t : Fin 3 => (rRect t).set) (fun i => (i 0).val) mem_rRect)
    rw [← h]
    rw [show (Finset.univ : Finset (Fin 3)).biUnion (fun t : Fin 3 => (rRect t).set) = (Finset.univ : Finset S3x256x768.Idx) from
      fibres_cover (X := S3x256x768.Idx) (fun t : Fin 3 => (rRect t).set) (fun i => (i 0).val) (fun i => (i 0).isLt) mem_rRect]
    rfl
  rw [e, bigSep_univ_eq_bigSepL [0, 1, 2] (by decide) (by decide)]
  simp only [bigSepL_cons_cons, bigSepL_singleton]
  rfl

/-- At the barrier a device hands each of the others the slots it will fill. -/
theorem hand :
    iprop((∃ f, own c mK f) ∗ (∃ f, own c mV f) ∗ (∃ f, own c mR f) ∗ (∃ f, own c mS f))
      ⊢ (iprop((barPay (sh c 1) 1 ∗ barPay (sh c 2) 2 ∗ barPay (sh c 3) 3) ∗ (∃ f, kS c c f) ∗ (∃ f, vS c c f) ∗ (∃ f, oS c (sh c 1) f)) : sProp 𝕄) := by
  unfold barPay
  rw [show sh (sh c 1) (4 - (1 : Fin 4).val) = c from sh_back c 1 (by decide), show sh (sh c 2) (4 - (2 : Fin 4).val) = c from sh_back c 2 (by decide),
    show sh (sh c 3) (4 - (3 : Fin 4).val) = c from sh_back c 3 (by decide), show sh (sh c 3) 1 = c from sh_back c 3 (by decide),
    show sh (sh c 3) 5 = sh c 0 from (sh_sh c 3 5).trans (sh_mod c 8 0 rfl), show sh (sh c 3) 4 = sh c 3 from (sh_sh c 3 4).trans (sh_mod c 7 3 rfl),
    show sh (sh c 3) 3 = sh c 2 from (sh_sh c 3 3).trans (sh_mod c 6 2 rfl), if_neg (by decide), if_neg (by decide), if_pos rfl]
  iintro ⟨⟨%f, Hk⟩, ⟨%g, Hv⟩, ⟨%r, Hr⟩, ⟨%o, Ho⟩⟩
  ihave Hk := (Entails.of_eq (kS_join c c f).symm) $$ Hk
  ihave Hv := (Entails.of_eq (vS_join c c g).symm) $$ Hv
  ihave Hr := (Entails.of_eq (rS_join c r).symm) $$ Hr
  ihave Ho := (Entails.of_eq (oS_join c c o).symm) $$ Ho
  icases Hk with ⟨K0, K1, K2, K3⟩
  icases Hv with ⟨V0, V1, V2, V3⟩
  icases Hr with ⟨R0, R1, R2⟩
  icases Ho with ⟨O0, O1, O2, O3⟩
  isplitr [K0 V0 O1]
  · isplitl [K1 V1]
    · isplitl [K1]; · iexists f; iexact K1
      isplitl [V1]; · iexists g; iexact V1
      iempintro
    isplitl [K2 V2]
    · isplitl [K2]; · iexists f; iexact K2
      isplitl [V2]; · iexists g; iexact V2
      iempintro
    isplitl [K3]; · iexists f; iexact K3
    isplitl [V3]; · iexists g; iexact V3
    isplitl [R0]; · iexists r; iexact R0
    isplitl [R1]; · iexists r; iexact R1
    isplitl [R2]; · iexists r; iexact R2
    isplitl [O0]; · iexists o; iexact O0
    isplitl [O3]; · iexists o; iexact O3
    iexists o; iexact O2
  isplitl [K0]
  · iexists f
    iapply (Entails.of_eq (show (kS c (sh c 0) f : sProp 𝕄) = kS c c f by rw [sh_zero])); iexact K0
  isplitl [V0]
  · iexists g
    iapply (Entails.of_eq (show (vS c (sh c 0) g : sProp 𝕄) = vS c c g by rw [sh_zero])); iexact V0
  iexists o; iexact O1

/-- What a device is handed in turn. -/
theorem taken :
    iprop(barPay c 1 ∗ barPay c 2 ∗ barPay c 3)
      = (iprop(((∃ f, kS (sh c 3) c f) ∗ (∃ f, vS (sh c 3) c f) ∗ emp) ∗ ((∃ f, kS (sh c 2) c f) ∗ (∃ f, vS (sh c 2) c f) ∗ emp)
        ∗ (∃ f, kS (sh c 1) c f) ∗ (∃ f, vS (sh c 1) c f) ∗ (∃ f, rS (sh c 1) 0 f) ∗ (∃ f, rS (sh c 1) 1 f) ∗ (∃ f, rS (sh c 1) 2 f)
        ∗ (∃ f, oS (sh c 1) (sh c 5) f) ∗ (∃ f, oS (sh c 1) (sh c 4) f) ∗ (∃ f, oS (sh c 1) (sh c 3) f)) : sProp 𝕄) := by
  unfold barPay
  rw [if_neg (by decide), if_neg (by decide), if_pos rfl]
  rfl

end Hand

/-! ## The body -/

section Back
variable (m : (ℓ : Loc nD τ sig) → Buf (Elt F) ℓ) (P : Dev nD → S4x256x768.Idx → Elt F .f32) (c : Dev nD)

/-- What the waits for the keys bring back. -/
theorem keys_back :
    iprop(pay m P c 4 0 ∗ pay m P c 7 0 ∗ pay m P c 8 0 ∗ pay m P c 9 0 ∗ pay m P c 11 0 ∗ pay m P c 12 0 ∗ pay m P c 13 0)
      ⊢ (iprop(own c mK (Kf m c) ∗ keys m c) : sProp 𝕄) := by
  rw [pay_own, show pay m P c 7 0 = _ from pay_ksend m P c 1 (by decide), show pay m P c 8 0 = _ from pay_ksend m P c 2 (by decide),
    show pay m P c 9 0 = _ from pay_ksend m P c 3 (by decide), show pay m P c 11 0 = _ from pay_krecv m P c 1 (by decide),
    show pay m P c 12 0 = _ from pay_krecv m P c 2 (by decide), show pay m P c 13 0 = _ from pay_krecv m P c 3 (by decide),
    ← kS_join c c, show (keys m c : sProp 𝕄) = _ from (aS_join c c (aK m c)).symm, sh_zero]
  iintro ⟨⟨K0, A0⟩, A1, A2, A3, K3, K2, K1⟩
  isplitl [K0 K1 K2 K3]
  · isplitl [K0]; · iexact K0
    isplitl [K1]; · iexact K1
    isplitl [K2]; · iexact K2
    iexact K3
  isplitl [A0]; · iexact A0
  isplitl [A1]; · iexact A1
  isplitl [A2]; · iexact A2
  iexact A3

/-- What the waits for the values bring back. -/
theorem vals_back :
    iprop(pay m P c 5 0 ∗ pay m P c 15 0 ∗ pay m P c 16 0 ∗ pay m P c 17 0 ∗ pay m P c 19 0 ∗ pay m P c 20 0 ∗ pay m P c 21 0)
      ⊢ (iprop(own c mV (Vf m c) ∗ vals m c) : sProp 𝕄) := by
  rw [pay_own', show pay m P c 15 0 = _ from pay_vsend m P c 1 (by decide), show pay m P c 16 0 = _ from pay_vsend m P c 2 (by decide),
    show pay m P c 17 0 = _ from pay_vsend m P c 3 (by decide), show pay m P c 19 0 = _ from pay_vrecv m P c 1 (by decide),
    show pay m P c 20 0 = _ from pay_vrecv m P c 2 (by decide), show pay m P c 21 0 = _ from pay_vrecv m P c 3 (by decide),
    ← vS_join c c, show (vals m c : sProp 𝕄) = _ from (bS_join c c (aV m c)).symm, sh_zero]
  iintro ⟨⟨K0, A0⟩, A1, A2, A3, K3, K2, K1⟩
  isplitl [K0 K1 K2 K3]
  · isplitl [K0]; · iexact K0
    isplitl [K1]; · iexact K1
    isplitl [K2]; · iexact K2
    iexact K3
  isplitl [A0]; · iexact A0
  isplitl [A1]; · iexact A1
  isplitl [A2]; · iexact A2
  iexact A3

/-- A transfer of the ring, with the slot it fills. -/
theorem rr_go (n₁ n₂ : ℕ) (X : sProp 𝕄) :
    iprop(rr c n₁ n₂ ∗ X) ⊢ iprop((tok c n₁ 0 ∗ tok (sh c 1) n₂ 0) ∗ pos c n₁ ∗ pc c n₂ ∗ X) := by
  iintro ⟨⟨Ht, Hp, Hq⟩, Hx⟩
  isplitl [Ht]; · iexact Ht
  isplitl [Hp]; · iexact Hp
  isplitl [Hq]; · iexact Hq
  iexact Hx

/-- A semaphore never used is closed as it stands. -/
theorem idle (n : ℕ) (h4 : 4 ≤ n) (hn : n ≤ 34) (h : dut n = ∅) :
    iprop(recs m P ∗ pos c n) ⊢ (iprop(|={⊤}=> zer c n) : sProp 𝕄) := by
  iintro ⟨#HR, Hp⟩
  ihave #Hc := (recs_known m P c n h4 hn) $$ HR
  unfold known
  icases Hc with ⟨⟨%κ, #HI⟩, #Hr⟩
  iapply (Rounds.cell_close ER (Rd m P) (Set.mem_univ κ) (fun h => h) (R := 0) (Rd_unused m P (cell c n) (by rw [idx_semAt n hn]; exact h))) $$ [Hp]
  isplitr; · iexact HI
  iexact Hp

end Back

/-- The whole body. -/
theorem body_ok {m : (ℓ : Loc nD τ sig) → Buf (Elt F) ℓ} {P : Dev nD → S4x256x768.Idx → Elt F .f32} {c : Dev nD}
    {x : S2x512x768.Idx → Elt F .f32} {w : S768x512.Idx → Elt F .f32} {w' : S512x768.Idx → Elt F .f32}
    (hP : P c = Pof (Cof (Qof x w) (Kf m c) (Vf m c)) w') :
    iprop(recs m P ∗ owing c (dues c) ∗ ghost c ∗ bufs c ∗ own c mX x ∗ own c mW w ∗ own c mW' w' ∗ (∃ f, own c mO f) ∗ keys m c ∗ vals m c)
      ⊢ rn c (app (cc0_body (F := F))) (fun _ => iprop(owing c [] ∗ zeros c ∗ bufs c ∗ own c mX x ∗ own c mW w ∗ own c mW' w'
          ∗ own c mO (Oof (Of P)) ∗ keys m c ∗ vals m c)) := by
  unfold app rn ghost barr bufs
  rw [cc0_body_eq_skeleton]
  unfold cc0_body_skel
  rw [wp_bind, k0_part35_eq_skeleton]
  unfold k0_part35_skel
  iintro ⟨#HR, HO, ⟨⟨⟨T1, T2, T3⟩, P34, C34⟩, ⟨T4, P4⟩, ⟨T5, P5⟩, ⟨I6, I10, I14, I18⟩, ⟨G7, G15, G8, G16, G9, G17⟩, ⟨R22, R23, R24⟩, R28, R29, R30⟩,
    ⟨BK, BV, BQ, BC, BP, BR, BS⟩, HX, HW, HW', BO, HK, HV⟩
  ihave HH := (hand c) $$ [BK BV BR BS]
  · isplitl [BK]; · iexact BK
    isplitl [BV]; · iexact BV
    isplitl [BR]; · iexact BR
    iexact BS
  icases HH with ⟨⟨H1, H2, H3⟩, K0, V0, O1⟩
  ihave HK := (Entails.of_eq (aS_join c c (aK m c)).symm) $$ HK
  ihave HV := (Entails.of_eq (bS_join c c (aV m c)).symm) $$ HV
  icases HK with ⟨A0, A1, A2, A3⟩
  icases HV with ⟨B0, B1, B2, B3⟩
  ihave A0 := (Entails.of_eq (show (aS c (sh c 0) (aK m c) : sProp 𝕄) = aS c c (aK m c) by rw [sh_zero])) $$ A0
  ihave B0 := (Entails.of_eq (show (bS c (sh c 0) (aV m c) : sProp 𝕄) = bS c c (aV m c) by rw [sh_zero])) $$ B0
  iapply (part1_ok m P c _) $$ [HO T1 H1]
  · isplitr; · iexact HR
    isplitl [HO]; · iexact HO
    isplitl [T1]; · iexact T1
    iexact H1
  iintro %v2 %v13 %v30 %v31 %v32 %v HO
  iapply (part2_ok m P c _ _ _ _ _) $$ [HO T2 H2 T3 H3 P34 C34 T4 A0 K0]
  · isplitr; · iexact HR
    isplitl [HO]; · iexact HO
    isplitl [T2 H2]
    · isplitl [T2]; · iexact T2
      iexact H2
    isplitl [T3 H3]
    · isplitl [T3]; · iexact T3
      iexact H3
    isplitl [P34]; · iexact P34
    isplitl [C34]; · iexact C34
    isplitl [T4]; · iexact T4
    isplitl [A0]; · iexact A0
    iexact K0
  iintro ⟨HO, Z34, HB, C4⟩
  ihave HB := (Entails.of_eq (taken c)) $$ HB
  icases HB with ⟨⟨DK3, DV3, -⟩, ⟨DK2, DV2, -⟩, DK1, DV1, S0, S1, S2, W5, W4, W3⟩
  iapply (part3_ok m P c _ _) $$ [HO T5 B0 V0 G7 A1 DK1]
  · isplitr; · iexact HR
    isplitl [HO]; · iexact HO
    isplitl [T5 B0 V0]
    · isplitl [T5]; · iexact T5
      isplitl [B0]; · iexact B0
      iexact V0
    isplitl [G7]; · iexact G7
    isplitl [A1]; · iexact A1
    iexact DK1
  iintro %v76 %w1 ⟨HO, C5, G7⟩
  iapply (part4_ok m P c _ _ _ _) $$ [HO G15 B1 DV1 G8 A2 DK2]
  · isplitr; · iexact HR
    isplitl [HO]; · iexact HO
    isplitl [G15 B1 DV1]
    · isplitl [G15]; · iexact G15
      isplitl [B1]; · iexact B1
      iexact DV1
    isplitl [G8]; · iexact G8
    isplitl [A2]; · iexact A2
    iexact DK2
  iintro %v107 %w2 ⟨HO, G15, G8⟩
  iapply (part5_ok m P c _ _ _ _) $$ [HO G16 B2 DV2]
  · isplitr; · iexact HR
    isplitl [HO]; · iexact HO
    isplitl [G16]; · iexact G16
    isplitl [B2]; · iexact B2
    iexact DV2
  iintro %v138 ⟨HO, G16⟩
  ihave BQ := (fl_start c mQ (Qof x w) (qUp 0) (fun i h => absurd h (Nat.not_lt_zero _))) $$ BQ
  iapply (part6_ok m P c x w _ _ _) $$ [HO G9 A3 DK3 G17 B3 DV3 HX HW BQ]
  · isplitr; · iexact HR
    isplitl [HO]; · iexact HO
    isplitl [G9 A3 DK3]
    · isplitl [G9]; · iexact G9
      isplitl [A3]; · iexact A3
      iexact DK3
    isplitl [G17 B3 DV3]
    · isplitl [G17]; · iexact G17
      isplitl [B3]; · iexact B3
      iexact DV3
    isplitl [HX]; · iexact HX
    isplitl [HW]; · iexact HW
    iexact BQ
  iintro ⟨HO, G9, G17, HX, HW, BQ⟩
  ihave BQ := (fl_done c mQ (Qof x w) (qUp 2) (fun i => (i 0).isLt)) $$ BQ
  iapply (part7_ok m P c _) $$ [HO P4 C4 P5 C5 G7]
  · isplitr; · iexact HR
    isplitl [HO]; · iexact HO
    isplitl [P4 C4]
    · isplitl [P4]; · iexact P4
      iexact C4
    isplitl [P5 C5]
    · isplitl [P5]; · iexact P5
      iexact C5
    iexact G7
  iintro ⟨HO, ⟨Z4, E4⟩, ⟨Z5, E5⟩, ⟨Z7, E7⟩, Z11, E11⟩
  iapply (part8_ok m P c _ _) $$ [HO G15 G8]
  · isplitr; · iexact HR
    isplitl [HO]; · iexact HO
    isplitl [G15]; · iexact G15
    iexact G8
  iintro ⟨HO, ⟨Z15, E15⟩, ⟨Z19, E19⟩, ⟨Z8, E8⟩, Z12, E12⟩
  iapply (part9_ok m P c _ _) $$ [HO G16 G9]
  · isplitr; · iexact HR
    isplitl [HO]; · iexact HO
    isplitl [G16]; · iexact G16
    iexact G9
  iintro ⟨HO, ⟨Z16, E16⟩, ⟨Z20, E20⟩, ⟨Z9, E9⟩, Z13, E13⟩
  iapply (part10_ok m P c _) $$ [HO G17]
  · isplitr; · iexact HR
    isplitl [HO]; · iexact HO
    iexact G17
  iintro ⟨HO, ⟨Z17, E17⟩, Z21, E21⟩
  ihave HE := (keys_back m P c) $$ [E4 E7 E8 E9 E11 E12 E13]
  · isplitl [E4]; · iexact E4
    isplitl [E7]; · iexact E7
    isplitl [E8]; · iexact E8
    isplitl [E9]; · iexact E9
    isplitl [E11]; · iexact E11
    isplitl [E12]; · iexact E12
    iexact E13
  icases HE with ⟨BK, HK⟩
  ihave HE := (vals_back m P c) $$ [E5 E15 E16 E17 E19 E20 E21]
  · isplitl [E5]; · iexact E5
    isplitl [E15]; · iexact E15
    isplitl [E16]; · iexact E16
    isplitl [E17]; · iexact E17
    isplitl [E19]; · iexact E19
    isplitl [E20]; · iexact E20
    iexact E21
  icases HE with ⟨BV, HV⟩
  iapply (part11_ok c _ _ _)
  ihave BC := (fl_start c mC (Cof (Qof x w) (Kf m c) (Vf m c)) (cUp 0) (fun i h => absurd h (Nat.not_lt_zero _))) $$ BC
  ihave H := (show iprop((own c mQ (Qof x w) ∗ own c mK (Kf m c) ∗ own c mV (Vf m c)) ∗ fl c mC (Cof (Qof x w) (Kf m c) (Vf m c)) (cUp 0)) ⊢ hd c (Qof x w) (Kf m c) (Vf m c) 0 from Entails.rfl) $$ [BQ BK BV BC]
  · isplitr [BC]
    · isplitl [BQ]; · iexact BQ
      isplitl [BK]; · iexact BK
      iexact BV
    iexact BC
  iapply (part12_ok c (Qof x w) (Kf m c) (Vf m c) 0 _ _ _ _ _) $$ H; iintro H
  iapply (part13_ok c (Qof x w) (Kf m c) (Vf m c) _ rfl) $$ H; iintro H
  iapply (part14_ok c (Qof x w) (Kf m c) (Vf m c)) $$ H; iintro H
  iapply (part15_ok c (Qof x w) (Kf m c) (Vf m c)) $$ H; iintro H
  iapply (part16_ok c (Qof x w) (Kf m c) (Vf m c)) $$ H; iintro H
  iapply (part17_ok c (Qof x w) (Kf m c) (Vf m c)) $$ H; iintro H
  iapply (part18_ok c (Qof x w) (Kf m c) (Vf m c)) $$ H; iintro H
  iapply (part19_ok c (Qof x w) (Kf m c) (Vf m c)) $$ H; iintro H
  iapply (part20_ok c (Qof x w) (Kf m c) (Vf m c)) $$ H; iintro H
  iapply (part21_ok c (Qof x w) (Kf m c) (Vf m c)) $$ H; iintro H
  iapply (part22_ok c (Qof x w) (Kf m c) (Vf m c)) $$ H; iintro H
  iapply (part23_ok c (Qof x w) (Kf m c) (Vf m c)) $$ H; iintro H
  ihave BP := (fl_start c mP (Pof (Cof (Qof x w) (Kf m c) (Vf m c)) w') (pUp 0) (fun i h => absurd h (Nat.not_lt_zero _))) $$ BP
  iapply (part24_ok c (Qof x w) (Kf m c) (Vf m c) w') $$ [H HW' BP]
  · isplitl [H]; · iexact H
    isplitl [HW']; · iexact HW'
    iexact BP
  iintro ⟨⟨BQ, BK, BV⟩, BC, HW', BP⟩
  ihave BP := (Entails.of_eq (show (fl c mP (Pof (Cof (Qof x w) (Kf m c) (Vf m c)) w') (pUp 2) : sProp 𝕄) = fl c mP (P c) (pUp 2) by rw [hP])) $$ BP
  ihave R22 := (rr_go c _ _ _) $$ [R22 S0]
  · isplitl [R22]; · iexact R22
    iexact S0
  ihave R23 := (rr_go c _ _ _) $$ [R23 S1]
  · isplitl [R23]; · iexact R23
    iexact S1
  ihave R24 := (rr_go c _ _ _) $$ [R24 S2]
  · isplitl [R24]; · iexact R24
    iexact S2
  ihave R28 := (rr_go c _ _ _) $$ [R28 W5]
  · isplitl [R28]; · iexact R28
    iexact W5
  ihave R29 := (rr_go c _ _ _) $$ [R29 W4]
  · isplitl [R29]; · iexact R29
    iexact W4
  ihave R30 := (rr_go c _ _ _) $$ [R30 W3]
  · isplitl [R30]; · iexact R30
    iexact W3
  iapply (part25_ok m P c _ _ _ _ (by rw [hP]; exact slotOf_ofSlots _ _) (by rw [hP]; exact slotOf_ofSlots _ _)) $$ [HO BP R22]
  · isplitr; · iexact HR
    isplitl [HO]; · iexact HO
    isplitl [BP]; · iexact BP
    iexact R22
  iintro ⟨HO, C22, C25, D1, D2, D3⟩
  iapply (part26_ok m P c _ _) $$ [HO C22 C25 D3]
  · isplitr; · iexact HR
    isplitl [HO]; · iexact HO
    isplitl [C22]; · iexact C22
    isplitl [C25]; · iexact C25
    iexact D3
  iintro ⟨HO, ⟨Z22, D0⟩, ⟨Z25, S0⟩, D3⟩
  iapply (part27_ok m P c _ _) $$ [HO R23 D3]
  · isplitr; · iexact HR
    isplitl [HO]; · iexact HO
    isplitl [R23]; · iexact R23
    iexact D3
  iintro %w3 ⟨HO, ⟨Z23, D3⟩, C26⟩
  iapply (part28_ok m P c _ _) $$ [HO C26 D2]
  · isplitr; · iexact HR
    isplitl [HO]; · iexact HO
    isplitl [C26]; · iexact C26
    iexact D2
  iintro %w4 %w5 %w6 ⟨HO, ⟨Z26, S1⟩, D2⟩
  iapply (part29_ok m P c _ _ _ _) $$ [HO R24 D2]
  · isplitr; · iexact HR
    isplitl [HO]; · iexact HO
    isplitl [R24]; · iexact R24
    iexact D2
  iintro ⟨HO, ⟨Z24, D2⟩, C27⟩
  iapply (part30_ok m P c _) $$ [HO C27 D1]
  · isplitr; · iexact HR
    isplitl [HO]; · iexact HO
    isplitl [C27]; · iexact C27
    iexact D1
  iintro %w7 ⟨HO, ⟨Z27, S2⟩, D1⟩
  iapply (part31_ok m P c _ _ _) $$ [HO D1 O1 R28]
  · isplitr; · iexact HR
    isplitl [HO]; · iexact HO
    isplitl [D1]; · iexact D1
    isplitl [O1]; · iexact O1
    iexact R28
  iintro ⟨HO, D1, C28, C31⟩
  iapply (part32_ok m P c _ _) $$ [HO C28 C31 R29]
  · isplitr; · iexact HR
    isplitl [HO]; · iexact HO
    isplitl [C28]; · iexact C28
    isplitl [C31]; · iexact C31
    iexact R29
  iintro ⟨HO, ⟨Z28, O5⟩, Z31, C29, C32⟩
  iapply (part33_ok m P c _ _) $$ [HO C29 C32]
  · isplitr; · iexact HR
    isplitl [HO]; · iexact HO
    isplitl [C29]; · iexact C29
    iexact C32
  iintro ⟨HO, ⟨Z29, O4⟩, Z32, O3⟩
  ihave BO := (fl_start c mO (Oof (Of P)) (oUp 0) (fun i h => absurd h (Nat.not_lt_zero _))) $$ BO
  iapply (part34_ok m P c _) $$ [HO O5 O4 O3 R30 BO]
  · isplitr; · iexact HR
    isplitl [HO]; · iexact HO
    isplitl [O5]; · iexact O5
    isplitl [O4]; · iexact O4
    isplitl [O3]; · iexact O3
    isplitl [R30]; · iexact R30
    iexact BO
  iintro ⟨HO, Z30, Z33, BS, BO⟩
  simp only [Prog.lift, Prog.bind_op, Prog.bind_ret, Prog.pure_eq_ret]
  iapply (o_put c (Of P) 0 1 1 1 2 rfl rfl rfl rfl (show _ = k0_pay60 (k0_pay59 _) from (cast_back _).symm)) $$ BO; iintro BO
  iapply (ld_s c (Of P) 2 rfl) $$ BS; iintro BS
  iapply (o_put c (Of P) 1 0 2 2 3 rfl rfl rfl rfl (cast_back _).symm) $$ BO; iintro BO
  iapply (ld_s c (Of P) 3 rfl) $$ BS; iintro BS
  iapply (fl_load c mO (Oof (Of P)) (oUp 3)) $$ BO; iintro BO
  rw [wp_ret]
  imodintro
  iapply (o_st c (Of P) 1 1 3 3 4 rfl rfl rfl rfl (show _ = k0_pay1 (k0_pay62 _) from (cast_back _).symm)) $$ BO; iintro BO
  unfold rn
  rw [wp_ret]
  imod (idle m P c 6 (by decide) (by decide) rfl) $$ [I6] with Z6
  · isplitr; · iexact HR
    iexact I6
  imod (idle m P c 10 (by decide) (by decide) rfl) $$ [I10] with Z10
  · isplitr; · iexact HR
    iexact I10
  imod (idle m P c 14 (by decide) (by decide) rfl) $$ [I14] with Z14
  · isplitr; · iexact HR
    iexact I14
  imod (idle m P c 18 (by decide) (by decide) rfl) $$ [I18] with Z18
  · isplitr; · iexact HR
    iexact I18
  imodintro
  isplitl [HO]; · iexact HO
  isplitl [Z4 Z5 Z6 Z7 Z8 Z9 Z10 Z11 Z12 Z13 Z14 Z15 Z16 Z17 Z18 Z19 Z20 Z21 Z22 Z23 Z24 Z25 Z26 Z27 Z28 Z29 Z30 Z31 Z32 Z33 Z34]
  · unfold zeros
    isplitl [Z4 Z5]
    · isplitl [Z4]; · iexact Z4
      iexact Z5
    isplitl [Z6 Z7 Z8 Z9]
    · isplitl [Z6]; · iexact Z6
      isplitl [Z7]; · iexact Z7
      isplitl [Z8]; · iexact Z8
      iexact Z9
    isplitl [Z10 Z11 Z12 Z13]
    · isplitl [Z10]; · iexact Z10
      isplitl [Z11]; · iexact Z11
      isplitl [Z12]; · iexact Z12
      iexact Z13
    isplitl [Z14 Z15 Z16 Z17]
    · isplitl [Z14]; · iexact Z14
      isplitl [Z15]; · iexact Z15
      isplitl [Z16]; · iexact Z16
      iexact Z17
    isplitl [Z18 Z19 Z20 Z21]
    · isplitl [Z18]; · iexact Z18
      isplitl [Z19]; · iexact Z19
      isplitl [Z20]; · iexact Z20
      iexact Z21
    isplitl [Z22 Z23 Z24]
    · isplitl [Z22]; · iexact Z22
      isplitl [Z23]; · iexact Z23
      iexact Z24
    isplitl [Z25 Z26 Z27]
    · isplitl [Z25]; · iexact Z25
      isplitl [Z26]; · iexact Z26
      iexact Z27
    isplitl [Z28 Z29 Z30]
    · isplitl [Z28]; · iexact Z28
      isplitl [Z29]; · iexact Z29
      iexact Z30
    isplitl [Z31 Z32 Z33]
    · isplitl [Z31]; · iexact Z31
      isplitl [Z32]; · iexact Z32
      iexact Z33
    iexact Z34
  isplitl [BK BV BQ BC D0 D1 D2 D3 S0 S1 S2 BS]
  · isplitl [BK]; · iexists _; iexact BK
    isplitl [BV]; · iexists _; iexact BV
    isplitl [BQ]; · iexists _; iexact BQ
    isplitl [BC]; · iexists _; iexact BC
    isplitl [D0 D1 D2 D3]
    · iexists (Acc P c)
      iapply (Entails.of_eq (show iprop(pS c (sh c 4) (Acc P c) ∗ pS c (sh c 1) (Acc P c) ∗ pS c (sh c 2) (Acc P c) ∗ pS c (sh c 3) (Acc P c)) = (own c mP (Acc P c) : sProp 𝕄) by
        rw [← pS_join c c, sh_four, sh_zero]))
      isplitl [D0]; · iexact D0
      isplitl [D1]; · iexact D1
      isplitl [D2]; · iexact D2
      iexact D3
    isplitl [S0 S1 S2]
    · iexists (RS P c)
      iapply (Entails.of_eq (rS_join c (RS P c)))
      isplitl [S0]; · iexact S0
      isplitl [S1]; · iexact S1
      iexact S2
    iexists _; iexact BS
  isplitl [HX]; · iexact HX
  isplitl [HW]; · iexact HW
  isplitl [HW']; · iexact HW'
  ihave BO := (fl_done c mO (Oof (Of P)) (oUp 4) (fun i => by
    have h0 : (i 0).val < 2 := (i 0).isLt
    have h1 : (i 1).val < 512 := (i 1).isLt
    show 2 * (i 0).val + (i 1).val / 256 < 4
    omega)) $$ BO
  isplitl [BO]; · iexact BO
  isplitl [HK]; · iexact HK
  iexact HV

end Cert.KernelIdealProof

end
-- ==== Proof.Body.lean ====
/-
# `Body`: the body as the pipeline runs it

The body on every device at once, with the contents it starts from and leaves.
-/
module

public import proofs.«01_k».proof.Proof.BodyE
public import Idealize.ShloMosaic.Lib.Pipeline.ValueKit.Geometry

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What every device's part of the product is -/

section Contents
variable (m : (ℓ : Loc nD τ sig) → Buf (Elt F) ℓ)

/-- The input and the weights, as device `c` has them. -/
def xs (c : Dev nD) : S2x512x768.Idx → Elt F .f32 := m ((c : Thread nD τ).loc main_arg0)
def ws (c : Dev nD) : S768x512.Idx → Elt F .f32 := m ((c : Thread nD τ).loc main_arg1)
def wos (c : Dev nD) : S512x768.Idx → Elt F .f32 := m ((c : Thread nD τ).loc main_arg4)

/-- Device `c`'s part of the product, in four slots of rows. -/
def part (c : Dev nD) : S4x256x768.Idx → Elt F .f32 := Pof (Cof (Qof (xs m c) (ws m c)) (Kf m c) (Vf m c)) (wos m c)
/-- The sum of all the parts. -/
def total : S2x512x768.Idx → Elt F .f32 := Oof (Of (part m))

/-! ## The pipeline's data -/

/-- What a device holds before the body, -/
def Φ₀ (c : Dev nD) : sProp 𝕄 := iprop((recs m (part m) ∗ ghost c ∗ keys m c ∗ vals m c) ∗ bufs c)
/-- and after it. -/
def Φ₁ (c : Dev nD) : sProp 𝕄 := iprop(bufs c ∗ zeros c ∗ keys m c ∗ vals m c)

def dats (_ : Fin 1) (c : Dev nD) : Dat τ (Elt F) Unit ℕ UU ℕ cfg0 c where
  A w := V m c (Pipeline.arrRef spec0 w)
  after w _ := match w with
    | ⟨0, _⟩ => xs m c
    | ⟨1, _⟩ => ws m c
    | ⟨2, _⟩ => wos m c
    | ⟨3, _⟩ => total m
  Φ t := match t with
    | ⟨0, _⟩ => Φ₀ m c
    | ⟨_ + 1, _⟩ => Φ₁ m c
  q _ := fullShare
  owed t := match t with
    | ⟨0, _⟩ => oweL (dues c)
    | ⟨_ + 1, _⟩ => 0

theorem before_0 (c : Dev nD) (d) : (dats m 0 c).before (0 : Fin 4) t0_0 d = xs m c := by
  unfold Dat.before
  rw [if_pos (fetch0_0 t0_0)]
  funext y
  show m ((c : Thread nD τ).loc main_arg0) (((cfg0.win 0).blk t0_0).view.emb y) = m ((c : Thread nD τ).loc main_arg0) y
  exact congrArg (m ((c : Thread nD τ).loc main_arg0)) (funext fun a => Fin.ext ((cfg0.win 0).rect_emb_val_of_index_zero t0_0 a ((by decide +kernel : ∀ a, (cfg0.win 0).index t0_0 a = 0) a) y))
theorem before_1 (c : Dev nD) (d) : (dats m 0 c).before (1 : Fin 4) t0_0 d = ws m c := by
  unfold Dat.before
  rw [if_pos (fetch0_1 t0_0)]
  funext y
  show m ((c : Thread nD τ).loc main_arg1) (((cfg0.win 1).blk t0_0).view.emb y) = m ((c : Thread nD τ).loc main_arg1) y
  exact congrArg (m ((c : Thread nD τ).loc main_arg1)) (funext fun a => Fin.ext ((cfg0.win 1).rect_emb_val_of_index_zero t0_0 a ((by decide +kernel : ∀ a, (cfg0.win 1).index t0_0 a = 0) a) y))
theorem before_2 (c : Dev nD) (d) : (dats m 0 c).before (2 : Fin 4) t0_0 d = wos m c := by
  unfold Dat.before
  rw [if_pos (fetch0_2 t0_0)]
  funext y
  show m ((c : Thread nD τ).loc main_arg4) (((cfg0.win 2).blk t0_0).view.emb y) = m ((c : Thread nD τ).loc main_arg4) y
  exact congrArg (m ((c : Thread nD τ).loc main_arg4)) (funext fun a => Fin.ext ((cfg0.win 2).rect_emb_val_of_index_zero t0_0 a ((by decide +kernel : ∀ a, (cfg0.win 2).index t0_0 a = 0) a) y))

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 (xs m c) ∗ stg c cc0_stg1_0 (ws m c) ∗ stg c cc0_stg2_0 (wos m c)
    ∗ stg c cc0_stg3_0 (total m))

theorem rn_mono (c : Dev nD) {p : Prog (TpuEff nD τ sig (Elt F) Λ₀ .tc) PUnit} {Q Q' : PUnit → sProp 𝕄} (h : ∀ a, Q a ⊢ Q' a) : rn c p Q ⊢ rn c p Q' :=
  wp_mono _ _ _ h

theorem body_whole (c : Dev nD) : bodyPre m c ⊢ rn c (app (cc0_body (F := F))) (fun _ => bodyPost m c) := by
  refine BIBase.Entails.trans ?_ ((body_ok (m := m) (P := part m) (c := c) (x := xs m c) (w := ws m c) (w' := wos m c) rfl).trans (rn_mono c fun _ => ?_))
  · unfold bodyPre Φ₀ Dat.owesAt Pipeline.owesWithin owing
    unfold own
    iintro ⟨⟨⟨HR, HG, HK, HV⟩, HB⟩, ⟨%W, %hW, HO⟩, ⟨%d0, %g0, %h0, Hx⟩, ⟨%d1, %g1, %h1, Hw⟩, ⟨%d2, %g2, %h2, Hw'⟩, ⟨%d3, %g3, %h3, Ho⟩⟩
    obtain rfl := h0.trans (before_0 m c d0)
    obtain rfl := h1.trans (before_1 m c d1)
    obtain rfl := h2.trans (before_2 m c d2)
    isplitl [HR]; · iexact HR
    isplitl [HO]; · iexists W; iexact HO
    isplitl [HG]; · iexact HG
    isplitl [HB]; · iexact HB
    isplitl [Hx]; · iexact Hx
    isplitl [Hw]; · iexact Hw
    isplitl [Hw']; · iexact Hw'
    isplitl [Ho]; · iexists g3; iexact Ho
    isplitl [HK]; · iexact HK
    iexact HV
  · unfold bodyPost Φ₁ Dat.owesAt Pipeline.owesWithin owing
    unfold own
    iintro ⟨⟨%W, HO⟩, HZ, HB, Hx, Hw, Hw', Ho, HK, HV⟩
    isplitl [HZ HB HK HV]
    · isplitl [HB]; · iexact HB
      isplitl [HZ]; · iexact HZ
      isplitl [HK]; · iexact HK
      iexact HV
    isplitl [HO]
    · iexists W
      isplitr; · ipureintro; exact fun _ _ => Or.inl trivial
      iexact HO
    isplitl [Hx]; · iexists (xs m c); isplitr; · ipureintro; rfl
                    iexact Hx
    isplitl [Hw]; · iexists (ws m c); isplitr; · ipureintro; rfl
                    iexact Hw
    isplitl [Hw']; · iexists (wos m c); isplitr; · ipureintro; rfl
                     iexact Hw'
    iexists (total m); isplitr; · ipureintro; rfl
    iexact Ho

/-- The body does what the pipeline asks of it. -/
theorem body_obligation (c : Dev nD) : BodyObligation (dats (F := F) m 0 c) (defs₀ (F := F)) 𝒱₀ () Set.univ := fun t => by
  rw [fin_N0 t]
  rw [bigSep_W0, bigSep_W0]
  simp only [owns_stg]
  exact body_whole m c

end Contents

end Cert.KernelIdealProof

end
-- ==== Proof.Launch.lean ====
/-
# `Launch`: from the body to the run

What the launch deals every device, the semaphores opened for the protocol, and the run of the four devices together.
-/
module

public import proofs.«01_k».proof.Proof.Body
public import Idealize.ShloMosaic.Lib.Pipeline.CollectiveSegs

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores and who pays what -/

/-- The semaphores the kernel has beside the barrier's. -/
abbrev osem (i : Fin 30) : SemLoc sig := semAt (i.val + 4)

theorem ownSemFacts : Pipeline.OwnSemFacts cfg0.spec osem := by decide

theorem semAt_inj {n n' : ℕ} (hn : n ≤ 34) (hn' : n' ≤ 34) (h : semAt n = semAt n') : n = n' := by
  rw [← idx_semAt n hn, h, idx_semAt n' hn']
theorem cell_inj {c c' : Dev nD} {n n' : ℕ} (hn : n ≤ 34) (hn' : n' ≤ 34) (h : cell c n = cell c' n') : c = c' ∧ n = n' :=
  ⟨by have := congrArg (fun g : GSem nD τ sig => g.1.1) h; exact this, semAt_inj hn hn' (congrArg Prod.snd h)⟩

/-- All of them, of every device. -/
abbrev kcell (ck : Dev nD × Fin 31) : GSem nD τ sig := cell ck.1 (ck.2.val + 4)
theorem kcell_injective : Function.Injective (kcell : Dev nD × Fin 31 → GSem nD τ sig) := by
  rintro ⟨c, k⟩ ⟨c', k'⟩ h
  obtain ⟨h1, h2⟩ := cell_inj (by have := k.isLt; omega) (by have := k'.isLt; omega) h
  exact Prod.ext h1 (Fin.ext (by simpa using h2))
def allCells : Finset (GSem nD τ sig) := Finset.univ.map ⟨kcell, kcell_injective⟩

/-- The duties a device pays: first one per semaphore, then the three of the barrier. To whom: so many places further, -/
def off (j : ℕ) : ℕ :=
  if j = 7 ∨ j = 15 then 1 else if j = 8 ∨ j = 16 then 2 else if j = 9 ∨ j = 17 then 3
  else if (21 ≤ j ∧ j < 24) ∨ (27 ≤ j ∧ j < 30) then 1 else if 31 ≤ j then j - 30 else 0
/-- that is to this device, -/
def dev (c : Dev nD) (j : ℕ) : Dev nD := if off j = 0 then c else sh c (off j)
/-- at this semaphore, -/
def num (j : ℕ) : ℕ := if j < 31 then j + 4 else 34
/-- this duty. -/
def dty (j : ℕ) : Fin 4 := if j < 31 then 0 else ⟨(j - 30) % 4, Nat.mod_lt _ (by decide)⟩

abbrev tokAt (cj : Dev nD × Fin 34) : GSem nD τ sig × ℕ × Fin 4 := (cell (dev cj.1 cj.2.val) (num cj.2.val), 0, dty cj.2.val)

theorem num_le (j : ℕ) (h : j < 34) : num j ≤ 34 := by unfold num; split <;> omega
theorem duty_inj : ∀ j j' : Fin 34, num j.val = num j'.val → dty j.val = dty j'.val → j = j' := by decide
theorem dev_inj : ∀ (j : Fin 34) (c c' : Dev nD), dev c j.val = dev c' j.val → c = c' := by decide

theorem tokAt_injective : Function.Injective (tokAt : Dev nD × Fin 34 → GSem nD τ sig × ℕ × Fin 4) := by
  rintro ⟨c, j⟩ ⟨c', j'⟩ h
  obtain ⟨h1, h2⟩ := cell_inj (num_le _ j.isLt) (num_le _ j'.isLt) (congrArg Prod.fst h)
  have hj := duty_inj j j' h2 (congrArg (fun x : GSem nD τ sig × ℕ × Fin 4 => x.2.2) h)
  dsimp only at hj h1
  subst hj
  exact Prod.ext (dev_inj _ _ _ h1) rfl
def allToks : Finset (GSem nD τ sig × ℕ × Fin 4) := Finset.univ.map ⟨tokAt, tokAt_injective⟩

def u₀ : UU :=
  (initOf (Pipeline.cells cfgs cellOf_inj) (Pipeline.launchToks cfgs cellOf_inj), initOf allCells allToks)

/-- The tokens device `c` pays with. -/
def toks (c : Dev nD) : sProp 𝕄 := bigSep Finset.univ fun j : Fin 34 => dutyTok ER (cell (dev c j.val) (num j.val)) 0 (dty j.val)
/-- The rights to wait that device `c` has. -/
def poss (c : Dev nD) : sProp 𝕄 := bigSep Finset.univ fun k : Fin 31 => pos c (k.val + 4)

theorem toks_eq (c : Dev nD) : (toks c : sProp 𝕄)
    = iprop(tok c 4 0 ∗ tok c 5 0 ∗ tok c 6 0 ∗ tok c 7 0 ∗ tok c 8 0 ∗ tok c 9 0 ∗ tok c 10 0 ∗ tok (sh c 1) 11 0 ∗ tok (sh c 2) 12 0 ∗ tok (sh c 3) 13 0 ∗ tok c 14 0 ∗ tok c 15 0 ∗ tok c 16 0 ∗ tok c 17 0 ∗ tok c 18 0 ∗ tok (sh c 1) 19 0 ∗ tok (sh c 2) 20 0 ∗ tok (sh c 3) 21 0 ∗ tok c 22 0 ∗ tok c 23 0 ∗ tok c 24 0 ∗ tok (sh c 1) 25 0 ∗ tok (sh c 1) 26 0 ∗ tok (sh c 1) 27 0 ∗ tok c 28 0 ∗ tok c 29 0 ∗ tok c 30 0 ∗ tok (sh c 1) 31 0 ∗ tok (sh c 1) 32 0 ∗ tok (sh c 1) 33 0 ∗ tok c 34 0 ∗ tok (sh c 1) 34 1 ∗ tok (sh c 2) 34 2 ∗ tok (sh c 3) 34 3) := by
  unfold toks; rw [bigSep_univ_eq_bigSepL [0, 1, 2, 3, 4, 5, 6, 7, 8, 9, 10, 11, 12, 13, 14, 15, 16, 17, 18, 19, 20, 21, 22, 23, 24, 25, 26, 27, 28, 29, 30, 31, 32, 33] (by decide) (by decide)]; rfl
theorem poss_eq (c : Dev nD) : (poss c : sProp 𝕄)
    = iprop(pos c 4 ∗ pos c 5 ∗ pos c 6 ∗ pos c 7 ∗ pos c 8 ∗ pos c 9 ∗ pos c 10 ∗ pos c 11 ∗ pos c 12 ∗ pos c 13 ∗ pos c 14 ∗ pos c 15 ∗ pos c 16 ∗ pos c 17 ∗ pos c 18 ∗ pos c 19 ∗ pos c 20 ∗ pos c 21 ∗ pos c 22 ∗ pos c 23 ∗ pos c 24 ∗ pos c 25 ∗ pos c 26 ∗ pos c 27 ∗ pos c 28 ∗ pos c 29 ∗ pos c 30 ∗ pos c 31 ∗ pos c 32 ∗ pos c 33 ∗ pos c 34) := by
  unfold poss; rw [bigSep_univ_eq_bigSepL [0, 1, 2, 3, 4, 5, 6, 7, 8, 9, 10, 11, 12, 13, 14, 15, 16, 17, 18, 19, 20, 21, 22, 23, 24, 25, 26, 27, 28, 29, 30] (by decide) (by decide)]; rfl

theorem ownSems0_eq (c : Dev nD) : (Pipeline.ownSems0 (Ix := Unit) (Name := ℕ) (U := UU) (Lvl := ℕ) (Val := Elt F) (τ := τ) osem c : sProp 𝕄)
    = iprop(zer c 4 ∗ zer c 5 ∗ zer c 6 ∗ zer c 7 ∗ zer c 8 ∗ zer c 9 ∗ zer c 10 ∗ zer c 11 ∗ zer c 12 ∗ zer c 13 ∗ zer c 14 ∗ zer c 15 ∗ zer c 16 ∗ zer c 17 ∗ zer c 18 ∗ zer c 19 ∗ zer c 20 ∗ zer c 21 ∗ zer c 22 ∗ zer c 23 ∗ zer c 24 ∗ zer c 25 ∗ zer c 26 ∗ zer c 27 ∗ zer c 28 ∗ zer c 29 ∗ zer c 30 ∗ zer c 31 ∗ zer c 32 ∗ zer c 33) := by
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide)]; rfl
theorem unscopedSems0_eq (c : Dev nD) : (unscopedSems0 c : sProp 𝕄) = zer c 34 := by
  unfold unscopedSems0; rw [bigSep_eq_bigSepL_of_eq [SemLoc.reg barS] (by decide) (by decide)]; rfl

theorem zeros_all (c : Dev nD) : (bigSep Finset.univ fun k : Fin 31 => (zer c (k.val + 4) : sProp 𝕄))
    = iprop(zer c 4 ∗ zer c 5 ∗ zer c 6 ∗ zer c 7 ∗ zer c 8 ∗ zer c 9 ∗ zer c 10 ∗ zer c 11 ∗ zer c 12 ∗ zer c 13 ∗ zer c 14 ∗ zer c 15 ∗ zer c 16 ∗ zer c 17 ∗ zer c 18 ∗ zer c 19 ∗ zer c 20 ∗ zer c 21 ∗ zer c 22 ∗ zer c 23 ∗ zer c 24 ∗ zer c 25 ∗ zer c 26 ∗ zer c 27 ∗ zer c 28 ∗ zer c 29 ∗ zer c 30 ∗ zer c 31 ∗ zer c 32 ∗ zer c 33 ∗ zer c 34) := by
  rw [bigSep_univ_eq_bigSepL [0, 1, 2, 3, 4, 5, 6, 7, 8, 9, 10, 11, 12, 13, 14, 15, 16, 17, 18, 19, 20, 21, 22, 23, 24, 25, 26, 27, 28, 29, 30] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => zer c (k.val + 4) : sProp 𝕄) := by
  rw [ownSems0_eq, unscopedSems0_eq, zeros_all]
  iintro ⟨⟨Z4, Z5, Z6, Z7, Z8, Z9, Z10, Z11, Z12, Z13, Z14, Z15, Z16, Z17, Z18, Z19, Z20, Z21, Z22, Z23, Z24, Z25, Z26, Z27, Z28, Z29, Z30, Z31, Z32, Z33⟩, Z34⟩
  iframe

theorem zeros_split (c : Dev nD) : (zeros c : sProp 𝕄)
    ⊢ iprop(Pipeline.ownSems0 (Ix := Unit) (Name := ℕ) (U := UU) (Lvl := ℕ) (Val := Elt F) (τ := τ) osem c ∗ unscopedSems0 c) := by
  rw [ownSems0_eq, unscopedSems0_eq]
  unfold zeros
  iintro ⟨⟨Z4, Z5⟩, ⟨Z6, Z7, Z8, Z9⟩, ⟨Z10, Z11, Z12, Z13⟩, ⟨Z14, Z15, Z16, Z17⟩, ⟨Z18, Z19, Z20, Z21⟩, ⟨Z22, Z23, Z24⟩, ⟨Z25, Z26, Z27⟩, ⟨Z28, Z29, Z30⟩, ⟨Z31, Z32, Z33⟩, Z34⟩
  iframe

section Deal
variable (m : (ℓ : Loc nD τ sig) → Buf (Elt F) ℓ)

/-- What the launch element deals device `c`, -/
def G (c : Dev nD) : sProp 𝕄 :=
  iprop((bigSep Finset.univ fun k : Fin 31 => roundState ER (Rd m (part m)) (kcell (c, k)) 0)
    ∗ (bigSep Finset.univ fun k : Fin 31 => reached ER (kcell (c, k)) 0) ∗ poss c ∗ toks c)
/-- and what the opening of the semaphores makes of it. -/
def G' (c : Dev nD) : sProp 𝕄 :=
  iprop((bigSep Finset.univ fun ck : Dev nD × Fin 31 => known m (part m) ck.1 (ck.2.val + 4)) ∗ poss c ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 31 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m (part m)) allCells allToks) $$ HX with ⟨Hst, Hr, Hat, Htok⟩
  imodintro
  ihave Hst' := (Entails.of_eq (hX fun g => roundState ER (Rd m (part m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · unfold poss; iexact Hat'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 31 => known m (part m) c (k.val + 4)) ∗ poss c ∗ toks c) := by
  unfold G
  iintro ⟨Hos, Hus, Hst, Hr, Hat, Htok⟩
  ihave Hv := (sems0_eq (F := F) c) $$ [Hos Hus]
  · isplitl [Hos] <;> iassumption
  imod (show iprop((bigSep Finset.univ fun k : Fin 31 => (zer c (k.val + 4) : sProp 𝕄)) ∗ bigSep Finset.univ fun k : Fin 31 => roundState ER (Rd m (part m)) (kcell (c, k)) 0)
      ⊢ (|={Set.univ}=> bigSep Finset.univ fun k : Fin 31 => iprop(∃ κ : ℕ, cellInv ER (Rd m (part m)) κ (kcell (c, k))) : sProp 𝕄) from by
        rw [← bigSep_sep']
        exact (bigSep_mono fun k _ => (Rounds.body_intro ER (Rd m (part m)) (kcell (c, k))).trans inv_alloc).trans (bigSep_fupd _ _)) $$ [Hv Hst] with Hinv
  · isplitl [Hv] <;> iassumption
  imodintro
  isplitl [Hinv Hr]
  · unfold known; rw [bigSep_sep']
    isplitl [Hinv]; · iexact Hinv
    iexact Hr
  isplitl [Hat]; · iexact Hat
  iexact Htok

theorem with_persistent {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (by rw [← bigSep_sep'])

theorem regroup :
    (bigSep Finset.univ fun c : Dev nD => iprop((bigSep Finset.univ fun k : Fin 31 => known m (part m) c (k.val + 4)) ∗ poss c ∗ toks c) : sProp 𝕄)
      ⊢ bigSep Finset.univ (G' m) := by
  rw [bigSep_sep', ← bigSep_univ_prod (fun ck : Dev nD × Fin 31 => (known m (part m) ck.1 (ck.2.val + 4) : sProp 𝕄))]
  exact with_persistent

/-- All semaphores of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Deal

/-! ## The credit for what is owed -/

/-- What a list owes one semaphore: the units of one duty, as often as the semaphore is listed. -/
theorem oweL_count : ∀ (l : List Due), (∀ x ∈ l, x.2 ≤ 34) → ∀ (c : Dev nD) (n : ℕ), n ≤ 34 →
    oweL l (cell c n) () = l.count (c, n) * amt n
  | [], _, c, n, hn => by rw [List.count_nil, Nat.zero_mul]; rfl
  | x :: l, h, c, n, hn => by
    unfold oweL
    rw [Pi.add_apply, Finsupp.add_apply, tallyAt_apply, oweL_count l (fun y hy => h y (List.mem_cons_of_mem _ hy)) c n hn, List.count_cons]
    by_cases hx : x = (c, n)
    · subst hx
      rw [if_pos ⟨rfl, rfl⟩, if_pos (beq_self_eq_true _), Nat.add_mul, Nat.one_mul]
    · rw [if_neg (fun hc => hx (by obtain ⟨h1, h2⟩ := cell_inj hn (h x List.mem_cons_self) hc.1; exact Prod.ext h1.symm h2.symm)),
        if_neg (fun hb => hx (eq_of_beq hb)), Nat.add_zero, Nat.add_zero]

/-- How many duties the devices owe to semaphore `n` of a device. -/
def cnt (n : ℕ) : ℕ :=
  if n = 34 then 3 else if (11 ≤ n ∧ n < 14) ∨ (19 ≤ n ∧ n < 22) ∨ (25 ≤ n ∧ n < 28) ∨ 31 ≤ n then 1 else 0

theorem dues_le : ∀ c : Dev nD, ∀ x ∈ dues c, x.2 ≤ 34 := by decide
theorem dues_cnt : ∀ (c : Dev nD) (k : Fin 31), ∑ d : Dev nD, (dues d).count (c, k.val + 4) = cnt (k.val + 4) := by decide +kernel

/-- The credit device `c` gets for its semaphore `n`. -/
def lcrd (c : Dev nD) (n : ℕ) : sProp 𝕄 := cred (tallyAt (cell c n) () (cnt n * amt n))
theorem lcrd_one (c : Dev nD) (n : ℕ) (h : cnt n = 1) : (lcrd c n : sProp 𝕄) = crd c n := by unfold lcrd; rw [h, Nat.one_mul]
theorem lcrd_bar (c : Dev nD) : (lcrd c 34 : sProp 𝕄) = cred (tallyAt (cell c 34) () 3) := by unfold lcrd; rfl

abbrev O₀ (c : Dev nD) : CellTallies nD τ sig Unit := oweL (dues c)

theorem creds (c : Dev nD) : (Pipeline.launchCred O₀ c : sProp 𝕄) ⊢ bigSep Finset.univ fun k : Fin 31 => lcrd c (k.val + 4) := by
  unfold Pipeline.launchCred
  have hinj : Function.Injective fun k : Fin 31 => semAt (k.val + 4) := fun k k' h =>
    Fin.ext (by have := semAt_inj (by have := k.isLt; omega) (by have := k'.isLt; omega) h; omega)
  refine (BI.bigSep_subset (Finset.subset_univ (Finset.univ.map ⟨fun k : Fin 31 => semAt (k.val + 4), hinj⟩))).trans ?_
  rw [bigSep_map]
  refine bigSep_mono fun k _ => BIBase.Entails.of_eq (PROP := sProp 𝕄) ?_
  unfold lcrd tallyAt
  refine congrArg cred (congrArg (tallyOn _) (Finsupp.ext fun u => ?_))
  cases u
  show launchCredit (Pipeline.owing O₀) 0 (cell c (k.val + 4)) () = _
  rw [Pipeline.launchCredit_owing, Finsupp.single_eq_same, Finset.sum_congr rfl fun d _ => oweL_count (dues d) (dues_le d) c (k.val + 4) (by have := k.isLt; omega),
    ← Finset.sum_mul, dues_cnt]

theorem lcrds_eq (c : Dev nD) : (bigSep Finset.univ fun k : Fin 31 => (lcrd c (k.val + 4) : sProp 𝕄))
    = iprop(lcrd c 4 ∗ lcrd c 5 ∗ lcrd c 6 ∗ lcrd c 7 ∗ lcrd c 8 ∗ lcrd c 9 ∗ lcrd c 10 ∗ lcrd c 11 ∗ lcrd c 12 ∗ lcrd c 13 ∗ lcrd c 14 ∗ lcrd c 15 ∗ lcrd c 16 ∗ lcrd c 17 ∗ lcrd c 18 ∗ lcrd c 19 ∗ lcrd c 20 ∗ lcrd c 21 ∗ lcrd c 22 ∗ lcrd c 23 ∗ lcrd c 24 ∗ lcrd c 25 ∗ lcrd c 26 ∗ lcrd c 27 ∗ lcrd c 28 ∗ lcrd c 29 ∗ lcrd c 30 ∗ lcrd c 31 ∗ lcrd c 32 ∗ lcrd c 33 ∗ lcrd c 34) := by
  rw [bigSep_univ_eq_bigSepL [0, 1, 2, 3, 4, 5, 6, 7, 8, 9, 10, 11, 12, 13, 14, 15, 16, 17, 18, 19, 20, 21, 22, 23, 24, 25, 26, 27, 28, 29, 30] (by decide) (by decide)]; rfl

/-! ## What the run takes -/

theorem share_eq (m : (ℓ : Loc nD τ sig) → Buf (Elt F) ℓ) (c : Dev nD) (w : Fin cfg0.W) : (dats m 0 c).share w = fullShare := by unfold Dat.share; split <;> rfl

section Run
variable (m : (ℓ : Loc nD τ sig) → Buf (Elt F) ℓ) (ρ : Dev nD → PrngReg)

/-- A device's part of all that was dealt. -/
theorem ghost_intro (c : Dev nD) : iprop(poss c ∗ toks c ∗ Pipeline.launchCred O₀ c) ⊢ (ghost c : sProp 𝕄) := by
  rw [poss_eq, toks_eq]
  iintro ⟨HP, HT, HC⟩
  ihave HC := (creds (F := F) c) $$ HC
  ihave HC := (Entails.of_eq (lcrds_eq (F := F) c)) $$ HC
  rw [lcrd_bar, lcrd_one c 11 rfl, lcrd_one c 12 rfl, lcrd_one c 13 rfl, lcrd_one c 19 rfl, lcrd_one c 20 rfl, lcrd_one c 21 rfl,
    lcrd_one c 25 rfl, lcrd_one c 26 rfl, lcrd_one c 27 rfl, lcrd_one c 31 rfl, lcrd_one c 32 rfl, lcrd_one c 33 rfl]
  icases HP with ⟨P4, P5, P6, P7, P8, P9, P10, P11, P12, P13, P14, P15, P16, P17, P18, P19, P20, P21, P22, P23, P24, P25, P26, P27, P28, P29, P30, P31, P32, P33, P34⟩
  icases HT with ⟨T4, T5, T6, T7, T8, T9, T10, T11, T12, T13, T14, T15, T16, T17, T18, T19, T20, T21, T22, T23, T24, T25, T26, T27, T28, T29, T30, T31, T32, T33, T34, T35, T36, T37⟩
  icases HC with ⟨C4, C5, C6, C7, C8, C9, C10, C11, C12, C13, C14, C15, C16, C17, C18, C19, C20, C21, C22, C23, C24, C25, C26, C27, C28, C29, C30, C31, C32, C33, C34⟩
  unfold ghost barr gh cpy rr pc
  iframe

/-- What the region enters with. -/
def enter (c : Dev nD) : sProp 𝕄 := iprop(recs m (part m) ∗ ghost c ∗ keys m c ∗ vals m c)
/-- What it leaves with. -/
def leave (c : Dev nD) : sProp 𝕄 := iprop(unscopedSems0 c ∗ keys m c ∗ vals m c)

theorem enter_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(enter m c ∗ emp) := by
  rw [Pipeline.unscopedRestP_none, show Pipeline.unscopedRest cfg0.spec c (fun b => m ((c : Thread nD τ).loc b)) = _ from unscopedRest0_eq c _]
  unfold G'
  iintro ⟨⟨HK, HV⟩, Hlev, Hcr, -, ⟨HI, HP, HT⟩⟩
  ihave HG := (ghost_intro (F := F) c) $$ [HP HT Hcr]
  · iframe
  imodintro
  isplitl
  · unfold enter recs
    isplitl [HI Hlev]
    · isplitl [HI] <;> iassumption
    isplitl [HG]; · iexact HG
    isplitl [HK]; · iexact HK
    iexact HV
  · iempintro

theorem phi0_intro (c : Dev nD) :
    iprop(enter m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, HB⟩
  isplitl [Hs]; · unfold enter; iexact Hs
  unfold bufs own
  iexact HB

theorem phi1_exit (c : Dev nD) :
    (dats m 0 c).Φ (Fin.last cfg0.N) ⊢ iprop(leave m c ∗ Pipeline.ownSems0 osem c ∗ Pipeline.scopedRest cfg0.spec c) := by
  rw [show (dats m 0 c).Φ (Fin.last cfg0.N) = Φ₁ m c from rfl, scopedRest0_eq]
  unfold Φ₁ leave
  iintro ⟨HB, HZ, HK, HV⟩
  ihave HZ := (zeros_split (F := F) c) $$ HZ
  icases HZ with ⟨HO, HU⟩
  isplitl [HU HK HV]
  · isplitl [HU]; · iexact HU
    isplitl [HK]; · iexact HK
    iexact HV
  isplitl [HO]; · iexact HO
  unfold bufs own
  iexact HB

/-- The semaphores of the pipeline's own transfers come before all that is owed. -/
theorem dues_above : ∀ c : Dev nD, ∀ x ∈ dues c, x.2 ≤ 34 ∧ 0 < lvl x.2 := by decide
theorem stage_level : ∀ (w : Fin 4) (s : Fin (cfg0.win w).nbuf), lvl (idx (.dma ((cfg0.win w).sem s))) = 0 := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_list c _ (dues c) fun x hx => by
        have e : lvl (idx (.dma (((cfgs 0).win w).sem s))) = 0 := stage_level w s
        rw [e]; exact dues_above c x hx
    · exact mayWait_list c _ [] fun x hx => absurd hx List.not_mem_nil

/-! ## The run -/

/-- What every final state holds. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg2) = aK m c ∧ r.2.mem ((c : Thread nD τ).loc main_arg3) = aV m c

set_option maxRecDepth 8000 in
/-- Every execution ends, on all devices, with the arrays as the pipeline leaves them, the keys and the values as they
    were, and all semaphores at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := enter m) (Y := leave m) (Z := fun _ => iprop(emp))
    (hX := enter_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = aK m c ∧ s.mem ((c : Thread nD τ).loc main_arg3) = aV m c)
    (hY := fun c s' => by
      unfold leave
      iintro ⟨⟨Hu, HK, HV⟩, -, HSI⟩
      icombine HSI HK gives %hK
      icombine HSI HV gives %hV
      imod (Pipeline.unscopedSems0_read (X := unscopedSems0 c) (c := c) fupd_intro s') $$ [Hu HSI] with ⟨%hz, HSI⟩
      · isplitl [Hu] <;> iassumption
      imodintro
      isplitr
      · ipureintro; exact ⟨hz, Buf.eq_of_forall_mem_univ hK, Buf.eq_of_forall_mem_univ hV⟩
      iexact HSI)
    (hQ := fun _ h hs => ⟨fun c => ⟨(h c).1, (h c).2.2.2⟩, sem_eq_zero hs fun c => (h c).2.2.1⟩)

end Run

end Cert.KernelIdealProof

end
-- ==== Proof.Run.lean ====
/-
# `Run`: the run of the kernel

Every device's arguments are as they were, and its result is the sum of all the parts.
-/
module

public import proofs.«01_k».proof.Proof.Launch

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Final
variable (m : (ℓ : Loc nD τ sig) → Buf (Elt F) ℓ) (ρ : Dev nD → PrngReg)

theorem out_eq (c : Dev nD) : (dats m 0 c).arrAt (3 : Fin 4) cfg0.N = total m := by
  refine Dat.arrAt_eq_of_after_last (dats m 0 c) (3 : Fin 4) t0_0 (by decide +kernel) (total m) fun j => ?_
  rfl

/-- Every execution ends with every argument as it was, the sum of all the parts in every device's result, and every
    semaphore at zero. -/
theorem run_total : θ_run defs (onTc (τ := τ) (main (F := F))) (s₀ m ρ) (fun r => (∀ c : Dev nD,
      r.2.mem ((c : Thread nD τ).loc main_v1) = total m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨((h.1 c).1 (3 : Fin 4)).trans (out_eq m c),
      ((h.1 c).1 (0 : Fin 4)).trans ((dats m 0 c).arrAt_in (0 : Fin 4) rfl _),
      ((h.1 c).1 (1 : Fin 4)).trans ((dats m 0 c).arrAt_in (1 : Fin 4) rfl _),
      (h.1 c).2.1, (h.1 c).2.2,
      ((h.1 c).1 (2 : Fin 4)).trans ((dats m 0 c).arrAt_in (2 : Fin 4) rfl _)⟩, h.2⟩) (run_main m ρ)

end Final

end Cert.KernelIdealProof

end
-- ==== Proof.Frames.lean ====
/-
# `Frames`: the programs leave their arguments alone

Each program ends with its arguments as they were and with every semaphore at zero.
-/
module

public import proofs.«01_k».proof.Defs
public import proofs.«01_k».proof.Proof.Run
public import proofs.«01_k».proof.Proof.BitsRun
public import proofs.«01_k».proof.Proof.Gen.ReferenceIdeal.Run

@[expose] public section

noncomputable section

namespace Cert.Proof

open Idealize.ShloMosaic Idealize.SL.Sem

theorem kernel_quiescent : quiescent_Kernel (hKernel := Cert.Kernel.Gen.facts) := fun m g _ =>
  (θ_run Cert.Kernel.defs _ _).mono (fun r h => ⟨fun c => (h.1 c).2, h.2⟩) (Cert.KernelProof.run_total m g)

theorem ideal_quiescent : quiescent_KernelIdeal (hKernelIdeal := Cert.KernelIdeal.Gen.facts) := fun m g _ =>
  (θ_run Cert.KernelIdeal.defs _ _).mono (fun r h => ⟨fun c => (h.1 c).2, h.2⟩) (Cert.KernelIdealProof.run_total m g)

/-- The reference declares no semaphore. -/
theorem reference_quiescent : quiescent_ReferenceIdeal (hReferenceIdeal := Cert.ReferenceIdeal.Gen.facts) := fun m g _ =>
  (θ_run Cert.ReferenceIdeal.defs _ _).mono (fun r h => ⟨fun c => (h c).2, funext fun s => nomatch s.2⟩)
    (Cert.ReferenceIdeal.Value.run m g)

end Cert.Proof

end
-- ==== Proof.Spec.lean ====
/-
# `Spec`: the attention as plain sums

The result as a function of the coordinates: the queries, the scores of a row, the weighted mean of the values, and the
product with the output weights.
-/
module

public import Idealize.ShloMosaic.Lib.Pointwise

@[expose] public section

noncomputable section

namespace Cert.Spec

open Idealize.ShloMosaic

/-- Whether position `r` attends to position `j`: their blocks of 64 agree modulo four. -/
def mask (r : Fin 512) (j : Fin 2048) : BitVec 1 := if r.val / 64 % 4 = j.val / 64 % 4 then 1#1 else 0#1

/-- Two small numbers, as words, agree when they do as numbers. -/
theorem word_eq (a b : ℕ) (ha : a < 4294967296) (hb : b < 4294967296) :
    IntOp.cmpi .eq (BitVec.ofNat 32 a) (BitVec.ofNat 32 b) = if a = b then 1#1 else 0#1 := by
  have e : (BitVec.ofNat 32 a == BitVec.ofNat 32 b) = decide (a = b) := by
    rw [Bool.eq_iff_iff, beq_iff_eq, decide_eq_true_iff]
    refine ⟨fun h => ?_, fun h => by rw [h]⟩
    have := congrArg BitVec.toNat h
    rwa [BitVec.toNat_ofNat, BitVec.toNat_ofNat, Nat.mod_eq_of_lt ha, Nat.mod_eq_of_lt hb] at this
  show BitVec.ofBool (BitVec.ofNat 32 a == BitVec.ofNat 32 b) = _
  rw [e]
  by_cases h : a = b
  · rw [if_pos h, decide_eq_true h]; rfl
  · rw [if_neg h, decide_eq_false h]; rfl

/-- A row's score at `j`: an eighth of the product of the query and the key, where the position is attended to. -/
def score (M : Fin 2048 → BitVec 1) (q : Fin 64 → EReal) (k : Fin 2048 → Fin 64 → EReal) (j : Fin 2048) : EReal :=
  Scalar.select (M j) ((∑ d, q d * k j d) * Ideal.ofBits .f32 0x3E000000#32) (Ideal.ofBits .f32 0xCE6E6B28#32)

/-- The greatest of a row. -/
def top (s : Fin 2048 → EReal) : EReal := Finset.univ.fold max (Ideal.ofBits .f32 0xFF800000#32) fun j => s j

/-- The mean of `v`, each entry weighted with the exponential of its score. -/
def mean (s v : Fin 2048 → EReal) : EReal :=
  ∑ j, Ideal.div (Ideal.exp (s j - top s)) (∑ l, Ideal.exp (s l - top s)) * v j

section
variable (x : Fin 2 → Fin 512 → Fin 768 → EReal) (w : Fin 768 → Fin 2048 → EReal)
  (K V : Fin 2 → Fin 2048 → Fin 32 → Fin 64 → EReal) (wo : Fin 2048 → Fin 768 → EReal)

/-- The column of head `h` and place `d`. -/
def col (h : Fin 32) (d : Fin 64) : Fin 2048 := ⟨h.val * 64 + d.val, by omega⟩
def headOf (T : Fin 2048) : Fin 32 := ⟨T.val / 64, by omega⟩
def placeOf (T : Fin 2048) : Fin 64 := ⟨T.val % 64, by omega⟩

/-- The queries. -/
def query (b : Fin 2) (r : Fin 512) (T : Fin 2048) : EReal := ∑ e, x b r e * w e T

/-- The attention. -/
def context (b : Fin 2) (r : Fin 512) (T : Fin 2048) : EReal :=
  mean (score (mask r) (fun d => query x w b r (col (headOf T) d)) (fun j d => K b j (headOf T) d)) (fun j => V b j (headOf T) (placeOf T))

/-- The result. -/
def out (b : Fin 2) (r : Fin 512) (n : Fin 768) : EReal := ∑ T, context x w K V b r T * wo T n

end

end Cert.Spec

end
-- ==== Proof.KerOps.lean ====
/-
# `KerOps`: the kernel's computations, entry by entry

The mask, a head's attention, the projections and the addition, at an index of what they give.
-/
module

public import proofs.«01_k».proof.Proof.Vals
public import proofs.«01_k».proof.Proof.Spec

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The mask -/

/-- The quotient by 64, rounded down, as the kernel computes it; and the remainder by four. -/
def blockW (n : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)
def remW (n : BitVec 32) : BitVec 32 :=
  Scalar.select
    (IntOp.andi
      (IntOp.xori (IntOp.cmpi .slt (IntOp.remsi .vector n (Scalar.select (Scalar.cmpi .eq 4#32 0#32) 1#32 4#32)) 0#32)
        (Scalar.cmpi .slt (Scalar.select (Scalar.cmpi .eq 4#32 0#32) 1#32 4#32) 0#32))
      (IntOp.cmpi .ne (IntOp.remsi .vector n (Scalar.select (Scalar.cmpi .eq 4#32 0#32) 1#32 4#32)) 0#32))
    (IntOp.addi (IntOp.remsi .vector n (Scalar.select (Scalar.cmpi .eq 4#32 0#32) 1#32 4#32)) (Scalar.select (Scalar.cmpi .eq 4#32 0#32) 1#32 4#32))
    (IntOp.remsi .vector n (Scalar.select (Scalar.cmpi .eq 4#32 0#32) 1#32 4#32))

theorem remW_eq : ∀ n : Fin 2048, remW (blockW (BitVec.ofNat 32 n.val)) = BitVec.ofNat 32 (n.val / 64 % 4) := by decide +kernel

theorem msk_at (r : Fin 512) (j : Fin 2048) : msk (ix2 r j) = Spec.mask r j := by
  have e : msk (ix2 r j) = IntOp.cmpi .eq (remW (blockW (BitVec.ofNat 32 r.val))) (remW (blockW (BitVec.ofNat 32 j.val))) := by
    pointwise [msk, k0_pay9, k0_pay8, k0_pay7, k0_pay6, k0_pay5, k0_pay4]
    rfl
  rw [e, remW_eq ⟨r.val, by omega⟩, remW_eq j]
  exact Spec.word_eq _ _ (by omega) (by omega)

/-! ## One head -/

theorem head_at (q : Vec Ideal S1x512x64 .f32) (k v : Vec Ideal S1x2048x1x64 .f32) (r : Fin 512) (x : Fin 64) :
    k0_pay12 (F := Ideal) msk q k v (ix3 0 r x)
      = Spec.mean (Spec.score (Spec.mask r) (fun d => q (ix3 0 r d)) (fun j d => k (ix4 0 j 0 d))) (fun j => v (ix4 0 j 0 x)) := by
  pointwise [k0_pay12, msk_at, Spec.mean, Spec.score, Spec.top]

theorem proj_at (x : Vec Ideal S1x512x768 .f32) (w : Vec Ideal S768x512 .f32) (r : Fin 512) (t : Fin 512) :
    k0_pay2 (F := Ideal) x w (ix3 0 r t) = ∑ e : Fin 768, x (ix3 0 r e) * w (ix2 e t) := by
  pointwise [k0_pay2]

/-! ## The product with the output weights -/

theorem low0_at (a : Vec Ideal S1x512x512 .f32) (w : Vec Ideal S512x768 .f32) (r : Fin 256) (n : Fin 768) :
    k0_pay47 (F := Ideal) a w (ix3 0 r n) = ∑ t : Fin 512, a (ix3 0 ⟨r.val, by omega⟩ t) * w (ix2 t n) := by
  pointwise [k0_pay47, k0_pay46]
theorem high0_at (a : Vec Ideal S1x512x512 .f32) (w : Vec Ideal S512x768 .f32) (r : Fin 256) (n : Fin 768) :
    k0_pay48 (F := Ideal) a w (ix3 0 r n) = ∑ t : Fin 512, a (ix3 0 ⟨256 + r.val, by omega⟩ t) * w (ix2 t n) := by
  pointwise [k0_pay48, k0_pay46]
theorem low1_at (a : Vec Ideal S1x512x512 .f32) (w : Vec Ideal S512x768 .f32) (r : Fin 256) (n : Fin 768) :
    k0_pay51 (F := Ideal) (k0_pay50 a w) (ix3 0 r n) = ∑ t : Fin 512, a (ix3 0 ⟨r.val, by omega⟩ t) * w (ix2 t n) := by
  pointwise [k0_pay51, k0_pay50, k0_pay49]
theorem high1_at (a : Vec Ideal S1x512x512 .f32) (w : Vec Ideal S512x768 .f32) (r : Fin 256) (n : Fin 768) :
    k0_pay52 (F := Ideal) (k0_pay49 a w) (ix3 0 r n) = ∑ t : Fin 512, a (ix3 0 ⟨256 + r.val, by omega⟩ t) * w (ix2 t n) := by
  pointwise [k0_pay52, k0_pay49]

/-! ## The ring's addition -/

theorem add_at (a b : Vec Ideal S1x256x768 .f32) (r : Fin 256) (n : Fin 768) :
    k0_pay54 (F := Ideal) (k0_pay53 a b) (ix3 0 r n) = (a (ix3 0 r n) + b (ix3 0 r n) : EReal) := by
  pointwise [k0_pay54, k0_pay53]

end Cert.KernelIdealProof

end
-- ==== Proof.KerValue.lean ====
/-
# `KerValue`: the kernel's result, entry by entry

What the four devices compute together is the attention of `Spec`: device `c` has the heads `8 c` to `8 c + 7`.
-/
module

public import proofs.«01_k».proof.Proof.Body
public import proofs.«01_k».proof.Proof.KerOps

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## What a device computes, at an index -/

theorem Qof_at (x : S2x512x768.Idx → EReal) (w : S768x512.Idx → EReal) (b : Fin 2) (r t : Fin 512) :
    Qof (F := Ideal) x w (ix3 b r t) = ∑ e : Fin 768, (x (ix3 b r e) * w (ix2 e t) : EReal) := by
  have ex (e : Fin 768) : (xR b).emb (ix3 0 r e) = ix3 b r e := by
    funext a
    match a with
    | 0 => exact Fin.ext (by show b.val + 1 * 0 = b.val; omega)
    | 1 => exact Fin.ext (by show 0 + 1 * r.val = r.val; omega)
    | 2 => exact Fin.ext (by show 0 + 1 * e.val = e.val; omega)
  have ew (e : Fin 768) : wR.emb (ix2 e t) = ix2 e t := by
    funext a
    match a with
    | 0 => exact Fin.ext (by show 0 + 1 * e.val = e.val; omega)
    | 1 => exact Fin.ext (by show 0 + 1 * t.val = t.val; omega)
  have ey : (fun | 0 => ⟨0, by decide⟩ | 1 => ⟨r.val, r.isLt⟩ | 2 => ⟨t.val, t.isLt⟩ : S1x512x512.Idx) = ix3 0 r t := by
    funext a
    match a with
    | 0 => rfl
    | 1 => rfl
    | 2 => rfl
  refine (congrArg (k0_pay2 (F := Ideal) (blk (F := Ideal) x (xR b)) (blk (F := Ideal) w wR)) ey).trans ?_
  refine (proj_at _ _ r t).trans (Finset.sum_congr rfl fun e _ => ?_)
  exact Ideal.mul_congr (congrArg x (ex e)) (congrArg w (ew e))

theorem Cof_at (q : S2x512x512.Idx → EReal) (k v : S2x2048x8x64.Idx → EReal) (b : Fin 2) (r : Fin 512) (h : Fin 8) (d : Fin 64) :
    Cof (F := Ideal) q k v (ix3 b r ⟨64 * h.val + d.val, by omega⟩)
      = Spec.mean (Spec.score (Spec.mask r) (fun e => q (ix3 b r ⟨64 * h.val + e.val, by omega⟩)) (fun j e => k (ix4 b j h e)))
          (fun j => v (ix4 b j h d)) := by
  have eq (e : Fin 64) : (cR b h).emb (ix3 0 r e) = ix3 b r ⟨64 * h.val + e.val, by omega⟩ := by
    funext a
    match a with
    | 0 => exact Fin.ext (by show b.val + 1 * 0 = b.val; omega)
    | 1 => exact Fin.ext (by show 0 + 1 * r.val = r.val; omega)
    | 2 => exact Fin.ext (by show 64 * h.val + 1 * e.val = 64 * h.val + e.val; omega)
  have ek (j : Fin 2048) (e : Fin 64) : (eR b h).emb (ix4 0 j 0 e) = ix4 b j h e := by
    funext a
    match a with
    | 0 => exact Fin.ext (by show b.val + 1 * 0 = b.val; omega)
    | 1 => exact Fin.ext (by show 0 + 1 * j.val = j.val; omega)
    | 2 => exact Fin.ext (by show h.val + 1 * 0 = h.val; omega)
    | 3 => exact Fin.ext (by show 0 + 1 * e.val = e.val; omega)
  rw [← eq d, Cof_emb, head_at]
  refine congrArg₂ Spec.mean (congrArg₂ (Spec.score _) (funext fun e => congrArg q (eq e)) (funext fun j => funext fun e => congrArg k (ek j e))) ?_
  exact funext fun j => congrArg v (ek j d)

theorem Pof_at (a : S2x512x512.Idx → EReal) (w : S512x768.Idx → EReal) (b s : Fin 2) (r : Fin 256) (n : Fin 768) :
    slotOf (F := Ideal) (Pof (F := Ideal) a w) ⟨2 * b.val + s.val, by omega⟩ (ix3 0 r n)
      = ∑ t : Fin 512, (a (ix3 b ⟨256 * s.val + r.val, by omega⟩ t) * w (ix2 t n) : EReal) := by
  have ea (b : Fin 2) (p t : Fin 512) : (qR b).emb (ix3 0 p t) = ix3 b p t := by
    funext a
    match a with
    | 0 => exact Fin.ext (by show b.val + 1 * 0 = b.val; omega)
    | 1 => exact Fin.ext (by show 0 + 1 * p.val = p.val; omega)
    | 2 => exact Fin.ext (by show 0 + 1 * t.val = t.val; omega)
  have ew (t : Fin 512) : wR'.emb (ix2 t n) = ix2 t n := by
    funext a
    match a with
    | 0 => exact Fin.ext (by show 0 + 1 * t.val = t.val; omega)
    | 1 => exact Fin.ext (by show 0 + 1 * n.val = n.val; omega)
  have es (b : Fin 2) (p p' : Fin 512) (e : p = p') :
      ∑ t : Fin 512, (blk (F := Ideal) a (qR b) (ix3 0 p t) * blk (F := Ideal) w wR' (ix2 t n) : EReal) = ∑ t : Fin 512, (a (ix3 b p' t) * w (ix2 t n) : EReal) :=
    Finset.sum_congr rfl fun t _ => Ideal.mul_congr (congrArg a ((ea b p t).trans (by rw [e]))) (congrArg w (ew t))
  unfold Pof
  rw [slotOf_ofSlots]
  match b, s with
  | 0, 0 => exact (low0_at _ _ r n).trans (es 0 _ _ (Fin.ext (by show r.val = 256 * 0 + r.val; omega)))
  | 0, 1 => exact (high0_at _ _ r n).trans (es 0 _ _ (Fin.ext (by show 256 + r.val = 256 * 1 + r.val; omega)))
  | 1, 0 => exact (low1_at _ _ r n).trans (es 1 _ _ (Fin.ext (by show r.val = 256 * 0 + r.val; omega)))
  | 1, 1 => exact (high1_at _ _ r n).trans (es 1 _ _ (Fin.ext (by show 256 + r.val = 256 * 1 + r.val; omega)))

/-- Four numbers added around the ring, from any of them on. -/
theorem round_sum (f : Fin 4 → EReal) (j : Fin 4) : f (sh j 3) + (f (sh j 2) + (f (sh j 1) + f j)) = ∑ c, f c := by
  rw [Fin.sum_univ_four]
  match j with
  | 0 => show f 3 + (f 2 + (f 1 + f 0)) = _; ac_rfl
  | 1 => show f 0 + (f 3 + (f 2 + f 1)) = _; ac_rfl
  | 2 => show f 1 + (f 0 + (f 3 + f 2)) = _; ac_rfl
  | 3 => show f 2 + (f 1 + (f 0 + f 3)) = _; ac_rfl

/-- The ring's sum: every device's part, once. -/
theorem acc_at (P : Dev nD → S4x256x768.Idx → EReal) (j : Fin 4) (r : Fin 256) (n : Fin 768) :
    acc (F := Ideal) P 3 (sh j 3) (ix3 0 r n) = ∑ c : Fin 4, (slotOf (F := Ideal) (P c) j (ix3 0 r n) : EReal) := by
  have h0 : acc (F := Ideal) P 0 j = slotOf (F := Ideal) (P j) j := rfl
  have step (t : ℕ) (ht : t < 3) : acc (F := Ideal) P (t + 1) (sh j (t + 1)) (ix3 0 r n)
      = (slotOf (F := Ideal) (P (sh j (t + 1))) j (ix3 0 r n) + acc (F := Ideal) P t (sh j t) (ix3 0 r n) : EReal) := by
    have e1 : sh (sh j (t + 1)) (3 - t) = j := by rw [sh_sh, sh_mod j _ 0 (by omega), sh_zero]
    have e2 : sh (sh j (t + 1)) 3 = sh j t := by rw [sh_sh]; exact sh_mod j _ _ (by omega)
    refine (add_at _ _ r n).trans ?_
    rw [e1, e2]
  rw [step 2 (by omega), step 1 (by omega), step 0 (by omega), sh_zero, h0]
  exact round_sum (fun c => slotOf (F := Ideal) (P c) j (ix3 0 r n)) j

/-- The result, where every device's part is `Pof` of its attention. -/
theorem sum_at (A : Dev nD → S2x512x512.Idx → EReal) (W : Dev nD → S512x768.Idx → EReal) (b : Fin 2) (r : Fin 512) (n : Fin 768) :
    Oof (F := Ideal) (Of (F := Ideal) fun c => Pof (F := Ideal) (A c) (W c)) (ix3 b r n)
      = ∑ c : Fin 4, ∑ t : Fin 512, (A c (ix3 b r t) * W c (ix2 t n) : EReal) := by
  have eo : (outR b ⟨r.val / 256, by omega⟩).emb (ix3 0 ⟨r.val % 256, by omega⟩ n) = ix3 b r n := by
    funext a
    match a with
    | 0 => exact Fin.ext (by show b.val + 1 * 0 = b.val; omega)
    | 1 => exact Fin.ext (by show 256 * (r.val / 256) + 1 * (r.val % 256) = r.val; omega)
    | 2 => exact Fin.ext (by show 0 + 1 * n.val = n.val; omega)
  have er : (⟨256 * (r.val / 256) + r.val % 256, by omega⟩ : Fin 512) = r := Fin.ext (by show 256 * (r.val / 256) + r.val % 256 = r.val; omega)
  rw [← eo, Oof_emb _ b _ ⟨2 * b.val + r.val / 256, by omega⟩ rfl]
  unfold Of
  rw [slotOf_ofSlots, acc_at]
  refine Finset.sum_congr rfl fun c _ => (Pof_at (A c) (W c) b ⟨r.val / 256, by omega⟩ ⟨r.val % 256, by omega⟩ n).trans ?_
  rw [er]

/-! ## The whole arrays -/

section Whole
variable (x1 : (⟨2, ![768, 2048]⟩ : Shape).Idx → EReal) (xk : (⟨4, ![2, 2048, 32, 64]⟩ : Shape).Idx → EReal)
  (x4 : (⟨2, ![2048, 768]⟩ : Shape).Idx → EReal)

/-- A device's columns of the query weights, and its rows of the output weights. -/
theorem cols_at (c : Fin 4) (e : Fin 768) (t : Fin 512) :
    Layout.block ⟨2, ![768, 512]⟩ ⟨2, ![768, 2048]⟩ 1 4 c x1 (by decide) (ix2 e t) = x1 (ix2 e ⟨c.val * 512 + t.val, by omega⟩) := by
  refine congrArg x1 (funext fun a => ?_)
  match a with
  | 0 => rfl
  | 1 => rfl
theorem rows_at (c : Fin 4) (t : Fin 512) (n : Fin 768) :
    Layout.block ⟨2, ![512, 768]⟩ ⟨2, ![2048, 768]⟩ 0 4 c x4 (by decide) (ix2 t n) = x4 (ix2 ⟨c.val * 512 + t.val, by omega⟩ n) := by
  refine congrArg x4 (funext fun a => ?_)
  match a with
  | 0 => rfl
  | 1 => rfl

/-- What a device gathers of the keys (values): every position of its eight heads. -/
theorem gath_at (A : Dev nD → S2x512x32x64.Idx → EReal)
    (hA : ∀ c, A c = Layout.block ⟨4, ![2, 512, 32, 64]⟩ ⟨4, ![2, 2048, 32, 64]⟩ 1 4 c xk (by decide))
    (c : Fin 4) (b : Fin 2) (j : Fin 2048) (h : Fin 8) (d : Fin 64) :
    gath (F := Ideal) A c (ix4 b j h d) = xk (ix4 b j ⟨8 * c.val + h.val, by omega⟩ d) := by
  refine (congrFun (hA ⟨j.val / 512, by show _ < 4; omega⟩) _).trans (congrArg xk (funext fun a => ?_))
  match a with
  | 0 => rfl
  | 1 => exact Fin.ext (by show j.val / 512 * 512 + j.val % 512 = j.val; omega)
  | 2 => rfl
  | 3 => rfl

end Whole

/-- Every device's result is the whole attention. -/
theorem total_at (m : (ℓ : Loc nD τ sig) → Buf (Elt Ideal) ℓ)
    (x0 : S2x512x768.Idx → EReal) (x1 : (⟨2, ![768, 2048]⟩ : Shape).Idx → EReal) (x2 x3 : (⟨4, ![2, 2048, 32, 64]⟩ : Shape).Idx → EReal)
    (x4 : (⟨2, ![2048, 768]⟩ : Shape).Idx → EReal)
    (h0 : ∀ c, xs m c = x0) (h1 : ∀ c, ws m c = Layout.block ⟨2, ![768, 512]⟩ ⟨2, ![768, 2048]⟩ 1 4 c x1 (by decide))
    (h2 : ∀ c, aK m c = Layout.block ⟨4, ![2, 512, 32, 64]⟩ ⟨4, ![2, 2048, 32, 64]⟩ 1 4 c x2 (by decide))
    (h3 : ∀ c, aV m c = Layout.block ⟨4, ![2, 512, 32, 64]⟩ ⟨4, ![2, 2048, 32, 64]⟩ 1 4 c x3 (by decide))
    (h4 : ∀ c, wos m c = Layout.block ⟨2, ![512, 768]⟩ ⟨2, ![2048, 768]⟩ 0 4 c x4 (by decide))
    (b : Fin 2) (r : Fin 512) (n : Fin 768) :
    total m (ix3 b r n) = Spec.out (fun b r e => x0 (ix3 b r e)) (fun e T => x1 (ix2 e T)) (fun b j h d => x2 (ix4 b j h d))
      (fun b j h d => x3 (ix4 b j h d)) (fun T n => x4 (ix2 T n)) b r n := by
  have query_at (c : Fin 4) (t : Fin 512) (T : Fin 2048) (hT : c.val * 512 + t.val = T.val) :
      Qof (xs m c) (ws m c) (ix3 b r t) = Spec.query (fun b r e => x0 (ix3 b r e)) (fun e T => x1 (ix2 e T)) b r T := by
    rw [h0 c, h1 c, Qof_at]
    refine Finset.sum_congr rfl fun e _ => Ideal.mul_congr rfl ((cols_at x1 c e t).trans ?_)
    exact congrArg (fun T => x1 (ix2 e T)) (Fin.ext hT)
  have ctx_at (c : Fin 4) (h : Fin 8) (d : Fin 64) :
      Cof (Qof (xs m c) (ws m c)) (Kf m c) (Vf m c) (ix3 b r ⟨64 * h.val + d.val, by omega⟩)
        = Spec.context (fun b r e => x0 (ix3 b r e)) (fun e T => x1 (ix2 e T)) (fun b j h d => x2 (ix4 b j h d))
            (fun b j h d => x3 (ix4 b j h d)) b r ⟨c.val * 512 + (64 * h.val + d.val), by omega⟩ := by
    have eh : Spec.headOf ⟨c.val * 512 + (64 * h.val + d.val), by omega⟩ = ⟨8 * c.val + h.val, by omega⟩ :=
      Fin.ext (by show (c.val * 512 + (64 * h.val + d.val)) / 64 = 8 * c.val + h.val; omega)
    have ed : Spec.placeOf ⟨c.val * 512 + (64 * h.val + d.val), by omega⟩ = d :=
      Fin.ext (by show (c.val * 512 + (64 * h.val + d.val)) % 64 = d.val; omega)
    rw [Cof_at, Spec.context, eh, ed]
    refine congrArg₂ Spec.mean (congrArg₂ (Spec.score _) (funext fun e => ?_) (funext fun j => funext fun e => ?_)) (funext fun j => ?_)
    · exact query_at c _ _ (by show c.val * 512 + (64 * h.val + e.val) = (8 * c.val + h.val) * 64 + e.val; omega)
    · exact gath_at x2 (aK m) h2 c b j h e
    · exact gath_at x3 (aV m) h3 c b j h d
  refine (sum_at _ _ b r n).trans ?_
  rw [Spec.out, Fin.sum_univ_tiles 4 512 rfl]
  refine Finset.sum_congr rfl fun c _ => Finset.sum_congr rfl fun t _ => Ideal.mul_congr ?_ ?_
  · have et : t = ⟨64 * (t.val / 64) + t.val % 64, by omega⟩ := Fin.ext (by show t.val = 64 * (t.val / 64) + t.val % 64; omega)
    refine (congrArg (fun t => Cof (Qof (xs m c) (ws m c)) (Kf m c) (Vf m c) (ix3 b r t)) et).trans ?_
    refine (ctx_at c ⟨t.val / 64, by omega⟩ ⟨t.val % 64, by omega⟩).trans ?_
    exact congrArg (Spec.context _ _ _ _ b r) (Fin.ext (by show c.val * 512 + (64 * (t.val / 64) + t.val % 64) = c.val * 512 + t.val; omega))
  · rw [h4 c]; exact rows_at x4 c t n

end Cert.KernelIdealProof

end
-- ==== Proof.RefMask.lean ====
/-
# `RefMask`: which positions the reference lets attend to which

The reference's blocks and remainders, its mask, and that it drops no row.
-/
module

public import proofs.«01_k».proof.Proof.Spec
public import proofs.«01_k».proof.Proof.Gen.ReferenceIdeal.Read

@[expose] public section

set_option maxRecDepth 16384

noncomputable section

namespace Cert.RefValue

open Idealize.ShloMosaic Cert.ReferenceIdeal Cert.ReferenceIdeal.Gen Cert.ReferenceIdeal.Read Cert.Spec

/-- Which block of 64 a row, a column, lies in, and its remainder by four. -/
theorem rowBlock_at : ∀ r : Fin 512, (val_main_v3 (F := Ideal) (ix1 r) : BitVec 32) = BitVec.ofNat 32 (r.val / 64) := by decide +kernel
theorem colBlock_at : ∀ j : Fin 2048, (val_main_v6 (F := Ideal) (ix1 j) : BitVec 32) = BitVec.ofNat 32 (j.val / 64) := by decide +kernel
theorem rowRem_at : ∀ r : Fin 512, (val_main_v12 (F := Ideal) (ix2 r 0) : BitVec 32) = BitVec.ofNat 32 (r.val / 64 % 4) := by decide +kernel
theorem colRem_at : ∀ j : Fin 2048, (val_main_v11 (F := Ideal) (ix2 0 j) : BitVec 32) = BitVec.ofNat 32 (j.val / 64 % 4) := by decide +kernel

theorem mask_at (r : Fin 512) (j : Fin 2048) : (val_main_v16 (F := Ideal) (ix2 r j) : BitVec 1) = mask r j := by
  have e1 := word_eq (r.val / 64) (j.val / 64) (by omega) (by omega)
  have e2 := word_eq (j.val / 64 % 4) (r.val / 64 % 4) (by omega) (by omega)
  rw [← rowBlock_at, ← colBlock_at] at e1
  rw [← rowRem_at, ← colRem_at] at e2
  pointwise [val_main_v16, val_main_v15, val_main_v14, val_main_v13, val_main_v10, val_main_v9, val_main_v8, val_main_v7, val_main_v4]
  refine (congrArg₂ IntOp.ori e1 e2).trans ?_
  unfold mask
  by_cases h : r.val / 64 % 4 = j.val / 64 % 4
  · rw [if_pos h.symm, if_pos h]
    by_cases h' : r.val / 64 = j.val / 64
    · rw [if_pos h']; rfl
    · rw [if_neg h']; rfl
  · rw [if_neg h, if_neg (fun e : r.val / 64 = j.val / 64 => h (congrArg (· % 4) e)), if_neg (fun e : j.val / 64 % 4 = r.val / 64 % 4 => h e.symm)]
    rfl

/-- Every row attends to some position: to its own. -/
theorem any_at (r : Fin 512) : (val_main_v27 (F := Ideal) (ix1 r) : BitVec 1) = 1#1 := by
  pointwise [val_main_v27, mask_at]
  rw [← Finset.insert_erase (Finset.mem_univ (⟨r.val, by omega⟩ : Fin 2048)), Finset.fold_insert (Finset.notMem_erase _ _)]
  have e : mask r ⟨r.val, by omega⟩ = 1#1 := if_pos rfl
  rw [e]
  exact (by decide : ∀ y : BitVec 1, IntOp.ori 1#1 y = 1#1) _

end Cert.RefValue

end
-- ==== Proof.RefValue.lean ====
/-
# `RefValue`: what the reference computes

The reference's result, entry by entry, is the attention as plain sums.
-/
module

public import proofs.«01_k».proof.Proof.RefMask

@[expose] public section

set_option maxRecDepth 16384

noncomputable section

namespace Cert.RefValue

open Idealize.ShloMosaic Cert.ReferenceIdeal Cert.ReferenceIdeal.Gen Cert.ReferenceIdeal.Read Cert.Spec

abbrev A0 : Type := (⟨S2x512x768, .f32⟩ : BufTy).Contents (Elt Ideal)
abbrev A1 : Type := (⟨S768x2048, .f32⟩ : BufTy).Contents (Elt Ideal)
abbrev A2 : Type := (⟨S2x2048x32x64, .f32⟩ : BufTy).Contents (Elt Ideal)
abbrev A4 : Type := (⟨S2048x768, .f32⟩ : BufTy).Contents (Elt Ideal)

section
variable (x0 : A0) (x1 : A1) (x2 x3 : A2) (x4 : A4)

theorem query_at (b : Fin 2) (r : Fin 512) (h : Fin 32) (d : Fin 64) :
    val_main_v1 (F := Ideal) x0 x1 (ix4 b r h d) = query (fun b r e => x0 (ix3 b r e)) (fun e T => x1 (ix2 e T)) b r (col h d) := by
  pointwise [val_main_v1, val_main_v0, query, col]

theorem score_at (b : Fin 2) (h : Fin 32) (r : Fin 512) (j : Fin 2048) :
    val_main_v21 (F := Ideal) x0 x1 x2 (ix4 b h r j)
      = score (mask r) (fun d => query (fun b r e => x0 (ix3 b r e)) (fun e T => x1 (ix2 e T)) b r (col h d)) (fun j d => x2 (ix4 b j h d)) j := by
  pointwise [val_main_v21, val_main_call4_v1, val_main_v20, mask_at, val_main_v19, val_main_v18, val_main_cst, val_main_call4_v2, val_main_call4_v0, val_main_cst_3, val_main_v17, query_at, val_main_call4_v0, id_eq, score]

theorem top_at (b : Fin 2) (h : Fin 32) (r : Fin 512) :
    val_main_v22 (F := Ideal) x0 x1 x2 (ix3 b h r)
      = top (score (mask r) (fun d => query (fun b r e => x0 (ix3 b r e)) (fun e T => x1 (ix2 e T)) b r (col h d)) (fun j d => x2 (ix4 b j h d))) := by
  pointwise [val_main_v22, score_at, val_main_cst_4]
  rfl

theorem exp_at (b : Fin 2) (h : Fin 32) (r : Fin 512) (j : Fin 2048) (s : Fin 2048 → EReal)
    (hs : s = score (mask r) (fun d => query (fun b r e => x0 (ix3 b r e)) (fun e T => x1 (ix2 e T)) b r (col h d)) (fun j d => x2 (ix4 b j h d))) :
    val_main_v26 (F := Ideal) x0 x1 x2 (ix4 b h r j) = Ideal.exp (s j - top s) := by
  subst hs
  pointwise [val_main_v26, val_main_v25, val_main_v24, val_main_v23, score_at, top_at]

theorem sum_at (b : Fin 2) (h : Fin 32) (r : Fin 512) :
    val_main_v29 (F := Ideal) x0 x1 x2 (ix3 b h r) = ∑ l : Fin 2048, val_main_v26 (F := Ideal) x0 x1 x2 (ix4 b h r l) := by
  rw [val_main_v29_apply]
  refine (congrArg (· + _) (show val_main_cst_6 (F := Ideal) (Shape.Idx.first h_S_) = (0 : EReal) from Ideal.ofBits_zero_f32)).trans ((zero_add _).trans ?_)
  refine Finset.sum_congr rfl fun l _ => congrArg _ (funext fun a => ?_)
  match a with
  | ⟨0, _⟩ => rfl
  | ⟨1, _⟩ => rfl
  | ⟨2, _⟩ => rfl
  | ⟨3, _⟩ => rfl

theorem weight_at (b : Fin 2) (h : Fin 32) (r : Fin 512) (j : Fin 2048) :
    val_main_v35 (F := Ideal) x0 x1 x2 (ix4 b h r j)
      = Ideal.div (val_main_v26 (F := Ideal) x0 x1 x2 (ix4 b h r j)) (∑ l : Fin 2048, val_main_v26 (F := Ideal) x0 x1 x2 (ix4 b h r l)) := by
  pointwise [val_main_v35, val_main_call6_v1, val_main_v34, any_at, val_main_v33, val_main_v32, val_main_v31, val_main_call5_v1, val_main_v28, val_main_v30, sum_at]

/-- The attention, its heads side by side. -/
theorem context_at (b : Fin 2) (r : Fin 512) (T : Fin 2048) :
    val_main_v38 (F := Ideal) x0 x1 x2 x3 (ix3 b r T)
      = context (fun b r e => x0 (ix3 b r e)) (fun e T => x1 (ix2 e T)) (fun b j h d => x2 (ix4 b j h d)) (fun b j h d => x3 (ix4 b j h d)) b r T := by
  pointwise [val_main_v38, val_main_v37, val_main_v36, weight_at]
  unfold context mean
  refine Finset.sum_congr rfl fun j _ => (mul_comm (_ : EReal) _).trans (congrArg (· * _) ?_)
  exact congrArg₂ Ideal.div (exp_at x0 x1 x2 b (headOf T) r j _ rfl) (Finset.sum_congr rfl fun l _ => exp_at x0 x1 x2 b (headOf T) r l _ rfl)

theorem out_at (b : Fin 2) (r : Fin 512) (n : Fin 768) :
    val_main_v39 (F := Ideal) x0 x1 x2 x3 x4 (ix3 b r n)
      = out (fun b r e => x0 (ix3 b r e)) (fun e T => x1 (ix2 e T)) (fun b j h d => x2 (ix4 b j h d)) (fun b j h d => x3 (ix4 b j h d))
          (fun T n => x4 (ix2 T n)) b r n := by
  pointwise [val_main_v39, context_at]
  rfl

end

end Cert.RefValue

end
-- ==== Proof.Value.lean ====
/-
# `Value`: the kernel computes what the reference computes

Both results are the attention of `Spec`, entry by entry.
-/
module

public import proofs.«01_k».proof.Defs
public import proofs.«01_k».proof.Proof.Run
public import proofs.«01_k».proof.Proof.KerValue
public import proofs.«01_k».proof.Proof.RefValue
public import proofs.«01_k».proof.Proof.Gen.ReferenceIdeal.Run
public import proofs.«01_k».proof.Proof.Gen.ReferenceIdeal.Read

@[expose] public section

noncomputable section

namespace Cert.Proof

open Idealize.ShloMosaic Idealize.SL.Sem

/-- From devices that hold their blocks of the reference's arguments, every device's result is the reference's. -/
theorem same_result : algebraic_KernelIdeal_ReferenceIdeal (hKernelIdeal := Cert.KernelIdeal.Gen.facts)
    (hReferenceIdeal := Cert.ReferenceIdeal.Gen.facts) := fun m g m' g' _ ha => by
  refine ⟨Cert.KernelIdealProof.total m, (θ_run Cert.KernelIdeal.defs _ _).mono (fun r h => h.1) (Cert.KernelIdealProof.run_total m g), ?_⟩
  refine (θ_run Cert.ReferenceIdeal.defs _ _).mono (fun r h => ⟨(h 0).1.trans ?_, (h 0).2⟩) (Cert.ReferenceIdeal.Value.run m' g')
  rw [Cert.ReferenceIdeal.Read.val_main_v39_eq]
  funext i
  idx_vars i
  exact (Cert.RefValue.out_at _ _ _ _ _ _ _ _).trans
    (Cert.KernelIdealProof.total_at m _ _ _ _ _ (fun c => (ha c).1) (fun c => (ha c).2.1) (fun c => (ha c).2.2.1) (fun c => (ha c).2.2.2.1)
      (fun c => (ha c).2.2.2.2) _ _ _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  kernel_quiescent, ideal_quiescent, reference_quiescent, trivial, same_result⟩

end Cert.Proof

end
